-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "twelfth" .f32 0x3DAAAAAB#32 ((12⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v316) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x192 : Shape := ⟨2, ![32, 192]⟩
abbrev S3x8x1x3x3 : Shape := ⟨5, ![3, 8, 1, 3, 3]⟩
abbrev S3x8 : Shape := ⟨2, ![3, 8]⟩
abbrev S16x8x3x3 : Shape := ⟨4, ![16, 8, 3, 3]⟩
abbrev S16 : Shape := ⟨1, ![16]⟩
abbrev S64x256 : Shape := ⟨2, ![64, 256]⟩
abbrev S64 : Shape := ⟨1, ![64]⟩
abbrev S_ : Shape := ⟨0, ![]⟩

class Facts : Prop where
  bcast_S_S32x192 : S_.BroadcastsInDim S32x192 (![] : Fin 0 → Fin S32x192.rank)
  reducesTo_S32x192_S_d0_1 : S32x192.ReducesTo [0, 1] S_
  h_S_ : 0 < S_.numel
  bcast_S_S3x8x1x3x3 : S_.BroadcastsInDim S3x8x1x3x3 (![] : Fin 0 → Fin S3x8x1x3x3.rank)
  reducesTo_S3x8x1x3x3_S_d0_1_2_3_4 : S3x8x1x3x3.ReducesTo [0, 1, 2, 3, 4] S_
  bcast_S_S3x8 : S_.BroadcastsInDim S3x8 (![] : Fin 0 → Fin S3x8.rank)
  reducesTo_S3x8_S_d0_1 : S3x8.ReducesTo [0, 1] S_
  bcast_S_S16x8x3x3 : S_.BroadcastsInDim S16x8x3x3 (![] : Fin 0 → Fin S16x8x3x3.rank)
  reducesTo_S16x8x3x3_S_d0_1_2_3 : S16x8x3x3.ReducesTo [0, 1, 2, 3] S_
  bcast_S_S16 : S_.BroadcastsInDim S16 (![] : Fin 0 → Fin S16.rank)
  reducesTo_S16_S_d0 : S16.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S16 .f32) (main_arg5 : FVec F S64x256 .f32) (main_arg6 : FVec F S64 .f32) (main_v13 : IVec S_ 1) (main_v16 : IVec S16x8x3x3 1) : IVec S_ 1 :=
  let main_c_5 : IVec S_ 1 := constantI S_ 1 1#1
  let main_v17 : IVec S_ 1 := (fun x v => Host.reduce IntOp.andi x v reducesTo_S16x8x3x3_S_d0_1_2_3 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32x192 .f32) (main_arg1 : FVec F S3x8x1x3x3 .f32) (main_arg2 : FVec F S3x8 .f32) (main_arg3 : FVec F S16x8x3x3 .f32) (main_arg4 : FVec F S16 .f32) (main_arg5 : FVec F S64x256 .f32) (main_arg6 : FVec F S64 .f32) : IVec S_ 1 :=
  let main_v0 : FVec F S32x192 .f32 := Host.absf main_arg0
  let main_cst : FVec F S_ .f32 := constant S_ .f32 0x7F800000#32
  let main_v1 : FVec F S32x192 .f32 := broadcastInDim S32x192 ![] bcast_S_S32x192 main_cst
  let main_v2 : IVec S32x192 1 := cmpf .olt main_v0 main_v1
  let main_c : IVec S_ 1 := constantI S_ 1 1#1
  let main_v3 : IVec S_ 1 := (fun x v => Host.reduce IntOp.andi x v reducesTo_S32x192_S_d0_1 h_S_) main_v2 main_c
  let main_v4 : FVec F S3x8x1x3x3 .f32 := Host.absf main_arg1
  let main_cst_0 : FVec F S_ .f32 := constant S_ .f32 0x7F800000#32
  let main_v5 : FVec F S3x8x1x3x3 .f32 := broadcastInDim S3x8x1x3x3 ![] bcast_S_S3x8x1x3x3 main_cst_0
  let main_v6 : IVec S3x8x1x3x3 1 := cmpf .olt main_v4 main_v5
  let main_c_1 : IVec S_ 1 := constantI S_ 1 1#1
  let main_v7 : IVec S_ 1 := (fun x v => Host.reduce IntOp.andi x v reducesTo_S3x8x1x3x3_S_d0_1_2_3_4 h_S_) main_v6 main_c_1
  let main_v8 : IVec S_ 1 := andi main_v3 main_v7
  let main_v9 : FVec F S3x8 .f32 := Host.absf main_arg2
  let main_cst_2 : FVec F S_ .f32 := constant S_ .f32 0x7F800000#32
  let main_v10 : FVec F S3x8 .f32 := broadcastInDim S3x8 ![] bcast_S_S3x8 main_cst_2
  let main_v11 : IVec S3x8 1 := cmpf .olt main_v9 main_v10
  let main_c_3 : IVec S_ 1 := constantI S_ 1 1#1
  let main_v12 : IVec S_ 1 := (fun x v => Host.reduce IntOp.andi x v reducesTo_S3x8_S_d0_1 h_S_) main_v11 main_c_3
  let main_v13 : IVec S_ 1 := andi main_v8 main_v12
  let main_v14 : FVec F S16x8x3x3 .f32 := Host.absf main_arg3
  let main_cst_4 : FVec F S_ .f32 := constant S_ .f32 0x7F800000#32
  let main_v15 : FVec F S16x8x3x3 .f32 := broadcastInDim S16x8x3x3 ![] bcast_S_S16x8x3x3 main_cst_4
  let main_v16 : IVec S16x8x3x3 1 := cmpf .olt main_v14 main_v15
  fn_part1 (F := F) main_arg4 main_arg5 main_arg6 main_v13 main_v16
-- ==== Kernel.lean ====
abbrev S32x192 : Shape := ⟨2, ![32, 192]⟩
abbrev S3x8x1x3x3 : Shape := ⟨5, ![3, 8, 1, 3, 3]⟩
abbrev S3x8 : Shape := ⟨2, ![3, 8]⟩
abbrev S16x8x3x3 : Shape := ⟨4, ![16, 8, 3, 3]⟩
abbrev S16 : Shape := ⟨1, ![16]⟩
abbrev S64x256 : Shape := ⟨2, ![64, 256]⟩
abbrev S64 : Shape := ⟨1, ![64]⟩
abbrev S192x16 : Shape := ⟨2, ![192, 16]⟩
abbrev S_ : Shape := ⟨0, ![]⟩
abbrev S24x27 : Shape := ⟨2, ![24, 27]⟩
abbrev S3x8x3x3 : Shape := ⟨4, ![3, 8, 3, 3]⟩
abbrev S1x8x3x3 : Shape := ⟨4, ![1, 8, 3, 3]⟩
abbrev S8x3x3 : Shape := ⟨3, ![8, 3, 3]⟩
abbrev S8x9 : Shape := ⟨2, ![8, 9]⟩
abbrev S1 : Shape := ⟨1, ![1]⟩
abbrev S2 : Shape := ⟨1, ![2]⟩
abbrev S24x1 : Shape := ⟨2, ![24, 1]⟩
abbrev S3x3x8x16 : Shape := ⟨4, ![3, 3, 8, 16]⟩
abbrev S72x16 : Shape := ⟨2, ![72, 16]⟩
abbrev S16x72 : Shape := ⟨2, ![16, 72]⟩
abbrev S16x1 : Shape := ⟨2, ![16, 1]⟩
abbrev S64x16x16 : Shape := ⟨3, ![64, 16, 16]⟩
abbrev S1x64 : Shape := ⟨2, ![1, 64]⟩
abbrev S32x1x192 : Shape := ⟨3, ![32, 1, 192]⟩
abbrev S32x1x128 : Shape := ⟨3, ![32, 1, 128]⟩
abbrev S32x1x1 : Shape := ⟨3, ![32, 1, 1]⟩
abbrev S32 : Shape := ⟨1, ![32]⟩
abbrev S192x192 : Shape := ⟨2, ![192, 192]⟩
abbrev S1x192 : Shape := ⟨2, ![1, 192]⟩
abbrev S192x1 : Shape := ⟨2, ![192, 1]⟩
abbrev S64x64 : Shape := ⟨2, ![64, 64]⟩
abbrev S1x1x192 : Shape := ⟨3, ![1, 1, 192]⟩
abbrev S1x16 : Shape := ⟨2, ![1, 16]⟩
abbrev S1x80 : Shape := ⟨2, ![1, 80]⟩
abbrev S1x96 : Shape := ⟨2, ![1, 96]⟩
abbrev S27x64 : Shape := ⟨2, ![27, 64]⟩
abbrev S24x64 : Shape := ⟨2, ![24, 64]⟩
abbrev S8x64 : Shape := ⟨2, ![8, 64]⟩
abbrev S8x192 : Shape := ⟨2, ![8, 192]⟩
abbrev S8x16 : Shape := ⟨2, ![8, 16]⟩
abbrev S8x208 : Shape := ⟨2, ![8, 208]⟩
abbrev S8x224 : Shape := ⟨2, ![8, 224]⟩
abbrev S72x192 : Shape := ⟨2, ![72, 192]⟩
abbrev S16x192 : Shape := ⟨2, ![16, 192]⟩
abbrev S16x16 : Shape := ⟨2, ![16, 16]⟩
abbrev S1x16x16 : Shape := ⟨3, ![1, 16, 16]⟩
abbrev S64x16 : Shape := ⟨2, ![64, 16]⟩
abbrev S64x1 : Shape := ⟨2, ![64, 1]⟩
abbrev S128 : Shape := ⟨1, ![128]⟩
abbrev S63 : Shape := ⟨1, ![63]⟩
abbrev S1x63 : Shape := ⟨2, ![1, 63]⟩
abbrev S1x1 : Shape := ⟨2, ![1, 1]⟩
abbrev S1x1x128 : Shape := ⟨3, ![1, 1, 128]⟩
abbrev S1x128 : Shape := ⟨2, ![1, 128]⟩

abbrev nBuf : Space → Nat
  | .hbm => 52
  | .vmem => 10
  | .smem => 0
  | _ => 0

abbrev bufTy : (tb : Table) → Fin (tcTables nBuf tb) → BufTy
  | .hbm, ⟨0, _⟩ => ⟨S32x192, .f32⟩
  | .hbm, ⟨1, _⟩ => ⟨S3x8x1x3x3, .f32⟩
  | .hbm, ⟨2, _⟩ => ⟨S3x8, .f32⟩
  | .hbm, ⟨3, _⟩ => ⟨S16x8x3x3, .f32⟩
  | .hbm, ⟨4, _⟩ => ⟨S16, .f32⟩
  | .hbm, ⟨5, _⟩ => ⟨S64x256, .f32⟩
  | .hbm, ⟨6, _⟩ => ⟨S64, .f32⟩
  | .hbm, ⟨7, _⟩ => ⟨S192x16, .f32⟩
  | .hbm, ⟨8, _⟩ => ⟨S_, .f32⟩
  | .hbm, ⟨9, _⟩ => ⟨S24x27, .f32⟩
  | .hbm, ⟨10, _⟩ => ⟨S3x8x3x3, .f32⟩
  | .hbm, ⟨11, _⟩ => ⟨S1x8x3x3, .f32⟩
  | .hbm, ⟨12, _⟩ => ⟨S8x3x3, .f32⟩
  | .hbm, ⟨13, _⟩ => ⟨S8x9, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S24x27, .f32⟩
  | .hbm, ⟨20, _⟩ => ⟨S1x8x3x3, .f32⟩
  | .hbm, ⟨21, _⟩ => ⟨S8x3x3, .f32⟩
  | .hbm, ⟨22, _⟩ => ⟨S8x9, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S24x27, .f32⟩
  | .hbm, ⟨29, _⟩ => ⟨S1x8x3x3, .f32⟩
  | .hbm, ⟨30, _⟩ => ⟨S8x3x3, .f32⟩
  | .hbm, ⟨31, _⟩ => ⟨S8x9, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S24x27, .f32⟩
  | .hbm, ⟨38, _⟩ => ⟨S24x1, .f32⟩
  | .hbm, ⟨39, _⟩ => ⟨S3x3x8x16, .f32⟩
  | .hbm, ⟨40, _⟩ => ⟨S72x16, .f32⟩
  | .hbm, ⟨41, _⟩ => ⟨S16x72, .f32⟩
  | .hbm, ⟨42, _⟩ => ⟨S16x1, .f32⟩
  | .hbm, ⟨43, _⟩ => ⟨S64x16x16, .f32⟩
  | .hbm, ⟨44, _⟩ => ⟨S1x64, .f32⟩
  | .hbm, ⟨45, _⟩ => ⟨S32x1x192, .f32⟩
  | .hbm, ⟨46, _⟩ => ⟨S32x1x128, .f32⟩
  | .hbm, ⟨47, _⟩ => ⟨S32x1x128, .f32⟩
  | .hbm, ⟨48, _⟩ => ⟨S32x1x1, .f32⟩
  | .hbm, ⟨49, _⟩ => ⟨S32, .f32⟩
  | .hbm, ⟨50, _⟩ => ⟨S32x1x1, .f32⟩
  | .hbm, ⟨51, _⟩ => ⟨S32, .f32⟩
  | .local _ .vmem, ⟨0, _⟩ => ⟨S32x1x192, .f32⟩
  | .local _ .vmem, ⟨1, _⟩ => ⟨S24x27, .f32⟩
  | .local _ .vmem, ⟨2, _⟩ => ⟨S24x1, .f32⟩
  | .local _ .vmem, ⟨3, _⟩ => ⟨S16x72, .f32⟩
  | .local _ .vmem, ⟨4, _⟩ => ⟨S16x1, .f32⟩
  | .local _ .vmem, ⟨5, _⟩ => ⟨S64x16x16, .f32⟩
  | .local _ .vmem, ⟨6, _⟩ => ⟨S1x64, .f32⟩
  | .local _ .vmem, ⟨7, _⟩ => ⟨S192x16, .f32⟩
  | .local _ .vmem, ⟨8, _⟩ => ⟨S32x1x128, .f32⟩
  | .local _ .vmem, ⟨9, _⟩ => ⟨S32x1x128, .f32⟩
  | _, _ => ⟨S32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c : Ref sig .tc := ⟨.hbm, 14, rfl⟩
abbrev main_call0_v5 : Ref sig .tc := ⟨.hbm, 15, rfl⟩
abbrev main_call0_c_1 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_2 : Ref sig .tc := ⟨.hbm, 23, rfl⟩
abbrev main_call0_v12 : Ref sig .tc := ⟨.hbm, 24, rfl⟩
abbrev main_call0_c_3 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_c_4 : Ref sig .tc := ⟨.hbm, 32, rfl⟩
abbrev main_call0_v19 : Ref sig .tc := ⟨.hbm, 33, rfl⟩
abbrev main_call0_c_5 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31_0 : Ref sig .tc := ⟨.hbm, 46, rfl⟩
abbrev main_call0_v31_1 : Ref sig .tc := ⟨.hbm, 47, rfl⟩
abbrev main_call0_v32 : Ref sig .tc := ⟨.hbm, 48, rfl⟩
abbrev main_v0_0 : Ref sig .tc := ⟨.hbm, 49, rfl⟩
abbrev main_call0_v34 : Ref sig .tc := ⟨.hbm, 50, rfl⟩
abbrev main_v0_1 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "twelfth" => some ((12⁻¹ : ℝ) : EReal)
  | _ => none
-- ==== ReferenceIdeal.lean ====
abbrev S32x192 : Shape := ⟨2, ![32, 192]⟩
abbrev S3x8x1x3x3 : Shape := ⟨5, ![3, 8, 1, 3, 3]⟩
abbrev S3x8 : Shape := ⟨2, ![3, 8]⟩
abbrev S16x8x3x3 : Shape := ⟨4, ![16, 8, 3, 3]⟩
abbrev S16 : Shape := ⟨1, ![16]⟩
abbrev S64x256 : Shape := ⟨2, ![64, 256]⟩
abbrev S64 : Shape := ⟨1, ![64]⟩
abbrev S32x3x8x8 : Shape := ⟨4, ![32, 3, 8, 8]⟩
abbrev S_ : Shape := ⟨0, ![]⟩
abbrev S32x3x10x10 : Shape := ⟨4, ![32, 3, 10, 10]⟩
abbrev S32x3x8x8x8 : Shape := ⟨5, ![32, 3, 8, 8, 8]⟩
abbrev S32x3x1x8x8 : Shape := ⟨5, ![32, 3, 1, 8, 8]⟩
abbrev S3x8x1x1x1 : Shape := ⟨5, ![3, 8, 1, 1, 1]⟩
abbrev S1x3x8x1x1 : Shape := ⟨5, ![1, 3, 8, 1, 1]⟩
abbrev S32x3x8x64 : Shape := ⟨4, ![32, 3, 8, 64]⟩
abbrev S32x3x64x8 : Shape := ⟨4, ![32, 3, 64, 8]⟩
abbrev S32x192x8 : Shape := ⟨3, ![32, 192, 8]⟩
abbrev S32 : Shape := ⟨1, ![32]⟩
abbrev S32x1 : Shape := ⟨2, ![32, 1]⟩
abbrev S32x192x1 : Shape := ⟨3, ![32, 192, 1]⟩
abbrev S32x192x2 : Shape := ⟨3, ![32, 192, 2]⟩
abbrev S32x8x192 : Shape := ⟨3, ![32, 8, 192]⟩
abbrev S32x8x24x8 : Shape := ⟨4, ![32, 8, 24, 8]⟩
abbrev S32x8x26x10 : Shape := ⟨4, ![32, 8, 26, 10]⟩
abbrev S32x16x24x8 : Shape := ⟨4, ![32, 16, 24, 8]⟩
abbrev S16x8x1x1 : Shape := ⟨4, ![16, 8, 1, 1]⟩
abbrev S16x8 : Shape := ⟨2, ![16, 8]⟩
abbrev S16x32x24x8 : Shape := ⟨4, ![16, 32, 24, 8]⟩
abbrev S1x16x1x1 : Shape := ⟨4, ![1, 16, 1, 1]⟩
abbrev S32x16x4x6x4x2 : Shape := ⟨6, ![32, 16, 4, 6, 4, 2]⟩
abbrev S32x16x4x4 : Shape := ⟨4, ![32, 16, 4, 4]⟩
abbrev S32x256 : Shape := ⟨2, ![32, 256]⟩
abbrev S256x64 : Shape := ⟨2, ![256, 64]⟩
abbrev S32x64 : Shape := ⟨2, ![32, 64]⟩
abbrev S1x64 : Shape := ⟨2, ![1, 64]⟩
abbrev S32x64x1 : Shape := ⟨3, ![32, 64, 1]⟩
abbrev S32x64x2 : Shape := ⟨3, ![32, 64, 2]⟩
abbrev S32x128 : Shape := ⟨2, ![32, 128]⟩
abbrev S32x63 : Shape := ⟨2, ![32, 63]⟩

abbrev nBuf : Space → Nat
  | .hbm => 429
  | .vmem => 0
  | .smem => 0
  | _ => 0

abbrev hbmTy0_0 (i : Nat) : BufTy := match i % 128 with
  | 0 => ⟨S32x192, .f32⟩
  | 1 => ⟨S3x8x1x3x3, .f32⟩
  | 2 => ⟨S3x8, .f32⟩
  | 3 => ⟨S16x8x3x3, .f32⟩
  | 4 => ⟨S16, .f32⟩
  | 5 => ⟨S64x256, .f32⟩
  | 6 => ⟨S64, .f32⟩
  | 7 => ⟨S32x192, .i32⟩
  | 8 => ⟨S32x192, .f32⟩
  | 9 => ⟨S32x192, .i32⟩
  | 10 => ⟨S32x192, .f32⟩
  | 11 => ⟨S32x3x8x8, .f32⟩
  | 12 => ⟨S_, .i32⟩
  | 13 => ⟨S_, .f32⟩
  | 14 => ⟨S32x3x10x10, .f32⟩
  | 15 => ⟨S_, .f32⟩
  | 16 => ⟨S32x3x8x8x8, .f32⟩
  | 17 => ⟨S32x3x8x8, .f32⟩
  | 18 => ⟨S32x3x1x8x8, .f32⟩
  | 19 => ⟨S3x8x1x1x1, .f32⟩
  | 20 => ⟨S3x8, .f32⟩
  | 21 => ⟨S1x3x8x1x1, .f32⟩
  | 22 => ⟨S32x3x8x8x8, .f32⟩
  | 23 => ⟨S32x3x8x8x8, .f32⟩
  | 24 => ⟨S32x3x8x8x8, .f32⟩
  | 25 => ⟨S32x3x8x8x8, .f32⟩
  | 26 => ⟨S32x3x8x8, .f32⟩
  | 27 => ⟨S32x3x1x8x8, .f32⟩
  | 28 => ⟨S3x8x1x1x1, .f32⟩
  | 29 => ⟨S3x8, .f32⟩
  | 30 => ⟨S1x3x8x1x1, .f32⟩
  | 31 => ⟨S32x3x8x8x8, .f32⟩
  | 32 => ⟨S32x3x8x8x8, .f32⟩
  | 33 => ⟨S32x3x8x8x8, .f32⟩
  | 34 => ⟨S32x3x8x8x8, .f32⟩
  | 35 => ⟨S32x3x8x8, .f32⟩
  | 36 => ⟨S32x3x1x8x8, .f32⟩
  | 37 => ⟨S3x8x1x1x1, .f32⟩
  | 38 => ⟨S3x8, .f32⟩
  | 39 => ⟨S1x3x8x1x1, .f32⟩
  | 40 => ⟨S32x3x8x8x8, .f32⟩
  | 41 => ⟨S32x3x8x8x8, .f32⟩
  | 42 => ⟨S32x3x8x8x8, .f32⟩
  | 43 => ⟨S32x3x8x8x8, .f32⟩
  | 44 => ⟨S32x3x8x8, .f32⟩
  | 45 => ⟨S32x3x1x8x8, .f32⟩
  | 46 => ⟨S3x8x1x1x1, .f32⟩
  | 47 => ⟨S3x8, .f32⟩
  | 48 => ⟨S1x3x8x1x1, .f32⟩
  | 49 => ⟨S32x3x8x8x8, .f32⟩
  | 50 => ⟨S32x3x8x8x8, .f32⟩
  | 51 => ⟨S32x3x8x8x8, .f32⟩
  | 52 => ⟨S32x3x8x8x8, .f32⟩
  | 53 => ⟨S32x3x8x8, .f32⟩
  | 54 => ⟨S32x3x1x8x8, .f32⟩
  | 55 => ⟨S3x8x1x1x1, .f32⟩
  | 56 => ⟨S3x8, .f32⟩
  | 57 => ⟨S1x3x8x1x1, .f32⟩
  | 58 => ⟨S32x3x8x8x8, .f32⟩
  | 59 => ⟨S32x3x8x8x8, .f32⟩
  | 60 => ⟨S32x3x8x8x8, .f32⟩
  | 61 => ⟨S32x3x8x8x8, .f32⟩
  | 62 => ⟨S32x3x8x8, .f32⟩
  | 63 => ⟨S32x3x1x8x8, .f32⟩
  | 64 => ⟨S3x8x1x1x1, .f32⟩
  | 65 => ⟨S3x8, .f32⟩
  | 66 => ⟨S1x3x8x1x1, .f32⟩
  | 67 => ⟨S32x3x8x8x8, .f32⟩
  | 68 => ⟨S32x3x8x8x8, .f32⟩
  | 69 => ⟨S32x3x8x8x8, .f32⟩
  | 70 => ⟨S32x3x8x8x8, .f32⟩
  | 71 => ⟨S32x3x8x8, .f32⟩
  | 72 => ⟨S32x3x1x8x8, .f32⟩
  | 73 => ⟨S3x8x1x1x1, .f32⟩
  | 74 => ⟨S3x8, .f32⟩
  | 75 => ⟨S1x3x8x1x1, .f32⟩
  | 76 => ⟨S32x3x8x8x8, .f32⟩
  | 77 => ⟨S32x3x8x8x8, .f32⟩
  | 78 => ⟨S32x3x8x8x8, .f32⟩
  | 79 => ⟨S32x3x8x8x8, .f32⟩
  | 80 => ⟨S32x3x8x8, .f32⟩
  | 81 => ⟨S32x3x1x8x8, .f32⟩
  | 82 => ⟨S3x8x1x1x1, .f32⟩
  | 83 => ⟨S3x8, .f32⟩
  | 84 => ⟨S1x3x8x1x1, .f32⟩
  | 85 => ⟨S32x3x8x8x8, .f32⟩
  | 86 => ⟨S32x3x8x8x8, .f32⟩
  | 87 => ⟨S32x3x8x8x8, .f32⟩
  | 88 => ⟨S32x3x8x8x8, .f32⟩
  | 89 => ⟨S32x3x8x8, .f32⟩
  | 90 => ⟨S32x3x1x8x8, .f32⟩
  | 91 => ⟨S3x8x1x1x1, .f32⟩
  | 92 => ⟨S3x8, .f32⟩
  | 93 => ⟨S1x3x8x1x1, .f32⟩
  | 94 => ⟨S32x3x8x8x8, .f32⟩
  | 95 => ⟨S32x3x8x8x8, .f32⟩
  | 96 => ⟨S32x3x8x8x8, .f32⟩
  | 97 => ⟨S32x3x8x8x8, .f32⟩
  | 98 => ⟨S1x3x8x1x1, .f32⟩
  | 99 => ⟨S32x3x8x8x8, .f32⟩
  | 100 => ⟨S32x3x8x8x8, .f32⟩
  | 101 => ⟨S_, .f32⟩
  | 102 => ⟨S32x3x8x8x8, .f32⟩
  | 103 => ⟨S32x3x8x8x8, .f32⟩
  | 104 => ⟨S32x3x8x64, .f32⟩
  | 105 => ⟨S32x3x64x8, .f32⟩
  | 106 => ⟨S32x192x8, .f32⟩
  | 107 => ⟨S32, .i32⟩
  | 108 => ⟨S32x1, .i32⟩
  | 109 => ⟨S_, .f32⟩
  | 110 => ⟨S32x192x8, .f32⟩
  | 111 => ⟨S_, .i32⟩
  | 112 => ⟨S32x1, .i32⟩
  | 113 => ⟨S32x1, .i1⟩
  | 114 => ⟨S_, .i32⟩
  | 115 => ⟨S32x1, .i32⟩
  | 116 => ⟨S32x1, .i32⟩
  | 117 => ⟨S32x1, .i32⟩
  | 118 => ⟨S_, .i32⟩
  | 119 => ⟨S32x192, .i32⟩
  | 120 => ⟨S32x192, .i1⟩
  | 121 => ⟨S_, .i32⟩
  | 122 => ⟨S32x192, .i32⟩
  | 123 => ⟨S32x192, .i32⟩
  | 124 => ⟨S32x192, .i32⟩
  | 125 => ⟨S32x192, .i32⟩
  | 126 => ⟨S32x192x1, .i32⟩
  | 127 => ⟨S32x192x1, .i32⟩
  | _ => ⟨S32x192, .f32⟩

abbrev hbmTy0_1 (i : Nat) : BufTy := match i % 128 with
  | 0 => ⟨S32x192x2, .i32⟩
  | 1 => ⟨S32x192x8, .f32⟩
  | 2 => ⟨S32x8x192, .f32⟩
  | 3 => ⟨S32x8x24x8, .f32⟩
  | 4 => ⟨S_, .i32⟩
  | 5 => ⟨S_, .f32⟩
  | 6 => ⟨S32x8x26x10, .f32⟩
  | 7 => ⟨S_, .f32⟩
  | 8 => ⟨S32x16x24x8, .f32⟩
  | 9 => ⟨S32x8x24x8, .f32⟩
  | 10 => ⟨S16x8x1x1, .f32⟩
  | 11 => ⟨S16x8, .f32⟩
  | 12 => ⟨S16x32x24x8, .f32⟩
  | 13 => ⟨S32x16x24x8, .f32⟩
  | 14 => ⟨S32x16x24x8, .f32⟩
  | 15 => ⟨S32x8x24x8, .f32⟩
  | 16 => ⟨S16x8x1x1, .f32⟩
  | 17 => ⟨S16x8, .f32⟩
  | 18 => ⟨S16x32x24x8, .f32⟩
  | 19 => ⟨S32x16x24x8, .f32⟩
  | 20 => ⟨S32x16x24x8, .f32⟩
  | 21 => ⟨S32x8x24x8, .f32⟩
  | 22 => ⟨S16x8x1x1, .f32⟩
  | 23 => ⟨S16x8, .f32⟩
  | 24 => ⟨S16x32x24x8, .f32⟩
  | 25 => ⟨S32x16x24x8, .f32⟩
  | 26 => ⟨S32x16x24x8, .f32⟩
  | 27 => ⟨S32x8x24x8, .f32⟩
  | 28 => ⟨S16x8x1x1, .f32⟩
  | 29 => ⟨S16x8, .f32⟩
  | 30 => ⟨S16x32x24x8, .f32⟩
  | 31 => ⟨S32x16x24x8, .f32⟩
  | 32 => ⟨S32x16x24x8, .f32⟩
  | 33 => ⟨S32x8x24x8, .f32⟩
  | 34 => ⟨S16x8x1x1, .f32⟩
  | 35 => ⟨S16x8, .f32⟩
  | 36 => ⟨S16x32x24x8, .f32⟩
  | 37 => ⟨S32x16x24x8, .f32⟩
  | 38 => ⟨S32x16x24x8, .f32⟩
  | 39 => ⟨S32x8x24x8, .f32⟩
  | 40 => ⟨S16x8x1x1, .f32⟩
  | 41 => ⟨S16x8, .f32⟩
  | 42 => ⟨S16x32x24x8, .f32⟩
  | 43 => ⟨S32x16x24x8, .f32⟩
  | 44 => ⟨S32x16x24x8, .f32⟩
  | 45 => ⟨S32x8x24x8, .f32⟩
  | 46 => ⟨S16x8x1x1, .f32⟩
  | 47 => ⟨S16x8, .f32⟩
  | 48 => ⟨S16x32x24x8, .f32⟩
  | 49 => ⟨S32x16x24x8, .f32⟩
  | 50 => ⟨S32x16x24x8, .f32⟩
  | 51 => ⟨S32x8x24x8, .f32⟩
  | 52 => ⟨S16x8x1x1, .f32⟩
  | 53 => ⟨S16x8, .f32⟩
  | 54 => ⟨S16x32x24x8, .f32⟩
  | 55 => ⟨S32x16x24x8, .f32⟩
  | 56 => ⟨S32x16x24x8, .f32⟩
  | 57 => ⟨S32x8x24x8, .f32⟩
  | 58 => ⟨S16x8x1x1, .f32⟩
  | 59 => ⟨S16x8, .f32⟩
  | 60 => ⟨S16x32x24x8, .f32⟩
  | 61 => ⟨S32x16x24x8, .f32⟩
  | 62 => ⟨S32x16x24x8, .f32⟩
  | 63 => ⟨S1x16x1x1, .f32⟩
  | 64 => ⟨S32x16x24x8, .f32⟩
  | 65 => ⟨S32x16x24x8, .f32⟩
  | 66 => ⟨S_, .f32⟩
  | 67 => ⟨S32x16x24x8, .f32⟩
  | 68 => ⟨S32x16x24x8, .f32⟩
  | 69 => ⟨S32x16x4x6x4x2, .f32⟩
  | 70 => ⟨S_, .f32⟩
  | 71 => ⟨S32x16x4x4, .f32⟩
  | 72 => ⟨S_, .f32⟩
  | 73 => ⟨S32x16x4x4, .f32⟩
  | 74 => ⟨S32x16x4x4, .f32⟩
  | 75 => ⟨S32x256, .f32⟩
  | 76 => ⟨S256x64, .f32⟩
  | 77 => ⟨S32x64, .f32⟩
  | 78 => ⟨S1x64, .f32⟩
  | 79 => ⟨S32x64, .f32⟩
  | 80 => ⟨S32x64, .f32⟩
  | 81 => ⟨S32x64, .i32⟩
  | 82 => ⟨S32x64, .f32⟩
  | 83 => ⟨S32x64, .i32⟩
  | 84 => ⟨S32x64, .i32⟩
  | 85 => ⟨S_, .i32⟩
  | 86 => ⟨S32x1, .i32⟩
  | 87 => ⟨S32x1, .i1⟩
  | 88 => ⟨S_, .i32⟩
  | 89 => ⟨S32x1, .i32⟩
  | 90 => ⟨S32x1, .i32⟩
  | 91 => ⟨S32x1, .i32⟩
  | 92 => ⟨S_, .i32⟩
  | 93 => ⟨S32x64, .i32⟩
  | 94 => ⟨S32x64, .i1⟩
  | 95 => ⟨S_, .i32⟩
  | 96 => ⟨S32x64, .i32⟩
  | 97 => ⟨S32x64, .i32⟩
  | 98 => ⟨S32x64, .i32⟩
  | 99 => ⟨S32x64, .i32⟩
  | 100 => ⟨S32x64x1, .i32⟩
  | 101 => ⟨S32x64x1, .i32⟩
  | 102 => ⟨S32x64x2, .i32⟩
  | 103 => ⟨S32x64, .i32⟩
  | 104 => ⟨S32x64, .f32⟩
  | 105 => ⟨S32x64, .i32⟩
  | 106 => ⟨S_, .i32⟩
  | 107 => ⟨S32x1, .i32⟩
  | 108 => ⟨S32x1, .i1⟩
  | 109 => ⟨S_, .i32⟩
  | 110 => ⟨S32x1, .i32⟩
  | 111 => ⟨S32x1, .i32⟩
  | 112 => ⟨S32x1, .i32⟩
  | 113 => ⟨S_, .i32⟩
  | 114 => ⟨S32x64, .i32⟩
  | 115 => ⟨S32x64, .i1⟩
  | 116 => ⟨S_, .i32⟩
  | 117 => ⟨S32x64, .i32⟩
  | 118 => ⟨S32x64, .i32⟩
  | 119 => ⟨S32x64, .i32⟩
  | 120 => ⟨S32x64, .i32⟩
  | 121 => ⟨S32x64x1, .i32⟩
  | 122 => ⟨S32x64x1, .i32⟩
  | 123 => ⟨S32x64x2, .i32⟩
  | 124 => ⟨S32x64, .i32⟩
  | 125 => ⟨S32x64, .f32⟩
  | 126 => ⟨S32x64, .i32⟩
  | 127 => ⟨S_, .i32⟩
  | _ => ⟨S32x192, .f32⟩

abbrev hbmTy0_2 (i : Nat) : BufTy := match i % 128 with
  | 0 => ⟨S32x1, .i32⟩
  | 1 => ⟨S32x1, .i1⟩
  | 2 => ⟨S_, .i32⟩
  | 3 => ⟨S32x1, .i32⟩
  | 4 => ⟨S32x1, .i32⟩
  | 5 => ⟨S32x1, .i32⟩
  | 6 => ⟨S_, .i32⟩
  | 7 => ⟨S32x64, .i32⟩
  | 8 => ⟨S32x64, .i1⟩
  | 9 => ⟨S_, .i32⟩
  | 10 => ⟨S32x64, .i32⟩
  | 11 => ⟨S32x64, .i32⟩
  | 12 => ⟨S32x64, .i32⟩
  | 13 => ⟨S32x64, .i32⟩
  | 14 => ⟨S32x64x1, .i32⟩
  | 15 => ⟨S32x64x1, .i32⟩
  | 16 => ⟨S32x64x2, .i32⟩
  | 17 => ⟨S32x64, .i32⟩
  | 18 => ⟨S32x64, .f32⟩
  | 19 => ⟨S32x64, .f32⟩
  | 20 => ⟨S32x64, .f32⟩
  | 21 => ⟨S32x128, .f32⟩
  | 22 => ⟨S32x63, .f32⟩
  | 23 => ⟨S32x63, .f32⟩
  | 24 => ⟨S32x63, .f32⟩
  | 25 => ⟨S_, .f32⟩
  | 26 => ⟨S32x63, .f32⟩
  | 27 => ⟨S32x63, .f32⟩
  | 28 => ⟨S_, .f32⟩
  | 29 => ⟨S32x63, .f32⟩
  | 30 => ⟨S32x63, .i1⟩
  | 31 => ⟨S_, .f32⟩
  | 32 => ⟨S32x63, .f32⟩
  | 33 => ⟨S32x63, .i1⟩
  | 34 => ⟨S_, .f32⟩
  | 35 => ⟨S32x63, .f32⟩
  | 36 => ⟨S32x63, .i1⟩
  | 37 => ⟨S_, .f32⟩
  | 38 => ⟨S32x63, .f32⟩
  | 39 => ⟨S32x63, .i1⟩
  | 40 => ⟨S_, .f32⟩
  | 41 => ⟨S_, .f32⟩
  | 42 => ⟨S32x63, .f32⟩
  | 43 => ⟨S32x63, .f32⟩
  | 44 => ⟨S32x63, .f32⟩
  | 45 => ⟨S_, .f32⟩
  | 46 => ⟨S32x63, .f32⟩
  | 47 => ⟨S32x63, .f32⟩
  | 48 => ⟨S_, .f32⟩
  | 49 => ⟨S32x63, .f32⟩
  | 50 => ⟨S32x63, .f32⟩
  | 51 => ⟨S_, .f32⟩
  | 52 => ⟨S32x63, .f32⟩
  | 53 => ⟨S32x63, .f32⟩
  | 54 => ⟨S_, .f32⟩
  | 55 => ⟨S32x63, .f32⟩
  | 56 => ⟨S32x63, .f32⟩
  | 57 => ⟨S32x63, .f32⟩
  | 58 => ⟨S32x63, .f32⟩
  | 59 => ⟨S_, .f32⟩
  | 60 => ⟨S32, .f32⟩
  | 61 => ⟨S32x63, .f32⟩
  | 62 => ⟨S_, .f32⟩
  | 63 => ⟨S32x63, .f32⟩
  | 64 => ⟨S32x63, .f32⟩
  | 65 => ⟨S_, .f32⟩
  | 66 => ⟨S32x63, .f32⟩
  | 67 => ⟨S32x63, .i1⟩
  | 68 => ⟨S_, .f32⟩
  | 69 => ⟨S32x63, .f32⟩
  | 70 => ⟨S32x63, .i1⟩
  | 71 => ⟨S_, .f32⟩
  | 72 => ⟨S32x63, .f32⟩
  | 73 => ⟨S32x63, .i1⟩
  | 74 => ⟨S_, .f32⟩
  | 75 => ⟨S32x63, .f32⟩
  | 76 => ⟨S32x63, .i1⟩
  | 77 => ⟨S_, .f32⟩
  | 78 => ⟨S_, .f32⟩
  | 79 => ⟨S32x63, .f32⟩
  | 80 => ⟨S32x63, .f32⟩
  | 81 => ⟨S32x63, .f32⟩
  | 82 => ⟨S_, .f32⟩
  | 83 => ⟨S32x63, .f32⟩
  | 84 => ⟨S32x63, .f32⟩
  | 85 => ⟨S_, .f32⟩
  | 86 => ⟨S32x63, .f32⟩
  | 87 => ⟨S32x63, .f32⟩
  | 88 => ⟨S_, .f32⟩
  | 89 => ⟨S32x63, .f32⟩
  | 90 => ⟨S32x63, .f32⟩
  | 91 => ⟨S_, .f32⟩
  | 92 => ⟨S32x63, .f32⟩
  | 93 => ⟨S32x63, .f32⟩
  | 94 => ⟨S32x63, .f32⟩
  | 95 => ⟨S32x63, .f32⟩
  | 96 => ⟨S_, .f32⟩
  | 97 => ⟨S32, .f32⟩
  | 98 => ⟨S32, .f32⟩
  | 99 => ⟨S_, .f32⟩
  | 100 => ⟨S32x128, .f32⟩
  | 101 => ⟨S32x128, .f32⟩
  | 102 => ⟨S_, .f32⟩
  | 103 => ⟨S32x128, .f32⟩
  | 104 => ⟨S32x128, .i1⟩
  | 105 => ⟨S_, .f32⟩
  | 106 => ⟨S32x128, .f32⟩
  | 107 => ⟨S32x128, .i1⟩
  | 108 => ⟨S_, .f32⟩
  | 109 => ⟨S32x128, .f32⟩
  | 110 => ⟨S32x128, .i1⟩
  | 111 => ⟨S_, .f32⟩
  | 112 => ⟨S32x128, .f32⟩
  | 113 => ⟨S32x128, .i1⟩
  | 114 => ⟨S_, .f32⟩
  | 115 => ⟨S_, .f32⟩
  | 116 => ⟨S32x128, .f32⟩
  | 117 => ⟨S32x128, .f32⟩
  | 118 => ⟨S32x128, .f32⟩
  | 119 => ⟨S_, .f32⟩
  | 120 => ⟨S32x128, .f32⟩
  | 121 => ⟨S32x128, .f32⟩
  | 122 => ⟨S_, .f32⟩
  | 123 => ⟨S32x128, .f32⟩
  | 124 => ⟨S32x128, .f32⟩
  | 125 => ⟨S_, .f32⟩
  | 126 => ⟨S32x128, .f32⟩
  | 127 => ⟨S32x128, .f32⟩
  | _ => ⟨S32x192, .f32⟩

abbrev hbmTy0_3 (i : Nat) : BufTy := match i % 128 with
  | 0 => ⟨S_, .f32⟩
  | 1 => ⟨S32x128, .f32⟩
  | 2 => ⟨S32x128, .f32⟩
  | 3 => ⟨S32x128, .f32⟩
  | 4 => ⟨S32x128, .f32⟩
  | 5 => ⟨S_, .f32⟩
  | 6 => ⟨S32, .f32⟩
  | 7 => ⟨S32x128, .f32⟩
  | 8 => ⟨S_, .f32⟩
  | 9 => ⟨S32x128, .f32⟩
  | 10 => ⟨S32x128, .f32⟩
  | 11 => ⟨S_, .f32⟩
  | 12 => ⟨S32x128, .f32⟩
  | 13 => ⟨S32x128, .i1⟩
  | 14 => ⟨S_, .f32⟩
  | 15 => ⟨S32x128, .f32⟩
  | 16 => ⟨S32x128, .i1⟩
  | 17 => ⟨S_, .f32⟩
  | 18 => ⟨S32x128, .f32⟩
  | 19 => ⟨S32x128, .i1⟩
  | 20 => ⟨S_, .f32⟩
  | 21 => ⟨S32x128, .f32⟩
  | 22 => ⟨S32x128, .i1⟩
  | 23 => ⟨S_, .f32⟩
  | 24 => ⟨S_, .f32⟩
  | 25 => ⟨S32x128, .f32⟩
  | 26 => ⟨S32x128, .f32⟩
  | 27 => ⟨S32x128, .f32⟩
  | 28 => ⟨S_, .f32⟩
  | 29 => ⟨S32x128, .f32⟩
  | 30 => ⟨S32x128, .f32⟩
  | 31 => ⟨S_, .f32⟩
  | 32 => ⟨S32x128, .f32⟩
  | 33 => ⟨S32x128, .f32⟩
  | 34 => ⟨S_, .f32⟩
  | 35 => ⟨S32x128, .f32⟩
  | 36 => ⟨S32x128, .f32⟩
  | 37 => ⟨S_, .f32⟩
  | 38 => ⟨S32x128, .f32⟩
  | 39 => ⟨S32x128, .f32⟩
  | 40 => ⟨S32x128, .f32⟩
  | 41 => ⟨S32x128, .f32⟩
  | 42 => ⟨S_, .f32⟩
  | 43 => ⟨S32, .f32⟩
  | 44 => ⟨S32, .f32⟩
  | _ => ⟨S32x192, .f32⟩

abbrev hbmTy (i : Nat) : BufTy := match i / 128 with
  | 0 => hbmTy0_0 i
  | 1 => hbmTy0_1 i
  | 2 => hbmTy0_2 i
  | 3 => hbmTy0_3 i
  | _ => ⟨S32x192, .f32⟩

abbrev bufTy : (tb : Table) → Fin (tcTables nBuf tb) → BufTy
  | .hbm, ⟨i, _⟩ => hbmTy i
  | _, _ => ⟨S32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call1_v0 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_call2_cst : Ref sig .tc := ⟨.hbm, 101, rfl⟩
abbrev main_call2_v0 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_0 : Ref sig .tc := ⟨.hbm, 109, rfl⟩
abbrev main_v95 : Ref sig .tc := ⟨.hbm, 110, rfl⟩
abbrev main_c_1 : Ref sig .tc := ⟨.hbm, 111, rfl⟩
abbrev main_v96 : Ref sig .tc := ⟨.hbm, 112, rfl⟩
abbrev main_v97 : Ref sig .tc := ⟨.hbm, 113, rfl⟩
abbrev main_c_2 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_c_3 : Ref sig .tc := ⟨.hbm, 118, rfl⟩
abbrev main_v101 : Ref sig .tc := ⟨.hbm, 119, rfl⟩
abbrev main_v102 : Ref sig .tc := ⟨.hbm, 120, rfl⟩
abbrev main_c_4 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_c_5 : Ref sig .tc := ⟨.hbm, 132, rfl⟩
abbrev main_call3_v0 : Ref sig .tc := ⟨.hbm, 133, rfl⟩
abbrev main_v113 : Ref sig .tc := ⟨.hbm, 134, rfl⟩
abbrev main_cst_6 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_call4_cst : Ref sig .tc := ⟨.hbm, 194, rfl⟩
abbrev main_call4_v0 : Ref sig .tc := ⟨.hbm, 195, rfl⟩
abbrev main_v172 : Ref sig .tc := ⟨.hbm, 196, rfl⟩
abbrev main_v173 : Ref sig .tc := ⟨.hbm, 197, rfl⟩
abbrev main_cst_7 : Ref sig .tc := ⟨.hbm, 198, rfl⟩
abbrev main_v174 : Ref sig .tc := ⟨.hbm, 199, rfl⟩
abbrev main_cst_8 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_call5_v0 : Ref sig .tc := ⟨.hbm, 209, rfl⟩
abbrev main_call5_v1_0 : Ref sig .tc := ⟨.hbm, 210, rfl⟩
abbrev main_v183 : Ref sig .tc := ⟨.hbm, 211, rfl⟩
abbrev main_v184 : Ref sig .tc := ⟨.hbm, 212, rfl⟩
abbrev main_c_9 : Ref sig .tc := ⟨.hbm, 213, rfl⟩
abbrev main_v185 : Ref sig .tc := ⟨.hbm, 214, rfl⟩
abbrev main_v186 : Ref sig .tc := ⟨.hbm, 215, rfl⟩
abbrev main_c_10 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_c_11 : Ref sig .tc := ⟨.hbm, 220, rfl⟩
abbrev main_v190 : Ref sig .tc := ⟨.hbm, 221, rfl⟩
abbrev main_v191 : Ref sig .tc := ⟨.hbm, 222, rfl⟩
abbrev main_c_12 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_c_13 : Ref sig .tc := ⟨.hbm, 234, rfl⟩
abbrev main_v202 : Ref sig .tc := ⟨.hbm, 235, rfl⟩
abbrev main_v203 : Ref sig .tc := ⟨.hbm, 236, rfl⟩
abbrev main_c_14 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_c_15 : Ref sig .tc := ⟨.hbm, 241, rfl⟩
abbrev main_v207 : Ref sig .tc := ⟨.hbm, 242, rfl⟩
abbrev main_v208 : Ref sig .tc := ⟨.hbm, 243, rfl⟩
abbrev main_c_16 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_c_17 : Ref sig .tc := ⟨.hbm, 255, rfl⟩
abbrev main_v219 : Ref sig .tc := ⟨.hbm, 256, rfl⟩
abbrev main_v220 : Ref sig .tc := ⟨.hbm, 257, rfl⟩
abbrev main_c_18 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_c_19 : Ref sig .tc := ⟨.hbm, 262, rfl⟩
abbrev main_v224 : Ref sig .tc := ⟨.hbm, 263, rfl⟩
abbrev main_v225 : Ref sig .tc := ⟨.hbm, 264, rfl⟩
abbrev main_c_20 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_call6_cst : Ref sig .tc := ⟨.hbm, 281, rfl⟩
abbrev main_call6_v0 : Ref sig .tc := ⟨.hbm, 282, rfl⟩
abbrev main_v241 : Ref sig .tc := ⟨.hbm, 283, rfl⟩
abbrev main_cst_21 : Ref sig .tc := ⟨.hbm, 284, rfl⟩
abbrev main_v242 : Ref sig .tc := ⟨.hbm, 285, rfl⟩
abbrev main_v243 : Ref sig .tc := ⟨.hbm, 286, rfl⟩
abbrev main_cst_22 : Ref sig .tc := ⟨.hbm, 287, rfl⟩
abbrev main_v244 : Ref sig .tc := ⟨.hbm, 288, rfl⟩
abbrev main_v245 : Ref sig .tc := ⟨.hbm, 289, rfl⟩
abbrev main_cst_23 : Ref sig .tc := ⟨.hbm, 290, rfl⟩
abbrev main_v246 : Ref sig .tc := ⟨.hbm, 291, rfl⟩
abbrev main_v247 : Ref sig .tc := ⟨.hbm, 292, rfl⟩
abbrev main_cst_24 : Ref sig .tc := ⟨.hbm, 293, rfl⟩
abbrev main_v248 : Ref sig .tc := ⟨.hbm, 294, rfl⟩
abbrev main_v249 : Ref sig .tc := ⟨.hbm, 295, rfl⟩
abbrev main_cst_25 : Ref sig .tc := ⟨.hbm, 296, rfl⟩
abbrev main_cst_26 : Ref sig .tc := ⟨.hbm, 297, rfl⟩
abbrev main_call7_v0 : Ref sig .tc := ⟨.hbm, 298, rfl⟩
abbrev main_call7_v1 : Ref sig .tc := ⟨.hbm, 299, rfl⟩
abbrev main_v250 : Ref sig .tc := ⟨.hbm, 300, rfl⟩
abbrev main_cst_27 : Ref sig .tc := ⟨.hbm, 301, rfl⟩
abbrev main_call8_v0 : Ref sig .tc := ⟨.hbm, 302, rfl⟩
abbrev main_v251 : Ref sig .tc := ⟨.hbm, 303, rfl⟩
abbrev main_cst_28 : Ref sig .tc := ⟨.hbm, 304, rfl⟩
abbrev main_call9_v0 : Ref sig .tc := ⟨.hbm, 305, rfl⟩
abbrev main_v252 : Ref sig .tc := ⟨.hbm, 306, rfl⟩
abbrev main_cst_29 : Ref sig .tc := ⟨.hbm, 307, rfl⟩
abbrev main_call10_v0 : Ref sig .tc := ⟨.hbm, 308, rfl⟩
abbrev main_v253 : Ref sig .tc := ⟨.hbm, 309, rfl⟩
abbrev main_cst_30 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_cst_31 : Ref sig .tc := ⟨.hbm, 315, rfl⟩
abbrev main_v258 : Ref sig .tc := ⟨.hbm, 316, rfl⟩
abbrev main_v259 : Ref sig .tc := ⟨.hbm, 317, rfl⟩
abbrev main_call11_cst : Ref sig .tc := ⟨.hbm, 318, rfl⟩
abbrev main_call11_v0 : Ref sig .tc := ⟨.hbm, 319, rfl⟩
abbrev main_v260 : Ref sig .tc := ⟨.hbm, 320, rfl⟩
abbrev main_cst_32 : Ref sig .tc := ⟨.hbm, 321, rfl⟩
abbrev main_v261 : Ref sig .tc := ⟨.hbm, 322, rfl⟩
abbrev main_v262 : Ref sig .tc := ⟨.hbm, 323, rfl⟩
abbrev main_cst_33 : Ref sig .tc := ⟨.hbm, 324, rfl⟩
abbrev main_v263 : Ref sig .tc := ⟨.hbm, 325, rfl⟩
abbrev main_v264 : Ref sig .tc := ⟨.hbm, 326, rfl⟩
abbrev main_cst_34 : Ref sig .tc := ⟨.hbm, 327, rfl⟩
abbrev main_v265 : Ref sig .tc := ⟨.hbm, 328, rfl⟩
abbrev main_v266 : Ref sig .tc := ⟨.hbm, 329, rfl⟩
abbrev main_cst_35 : Ref sig .tc := ⟨.hbm, 330, rfl⟩
abbrev main_v267 : Ref sig .tc := ⟨.hbm, 331, rfl⟩
abbrev main_v268 : Ref sig .tc := ⟨.hbm, 332, rfl⟩
abbrev main_cst_36 : Ref sig .tc := ⟨.hbm, 333, rfl⟩
abbrev main_cst_37 : Ref sig .tc := ⟨.hbm, 334, rfl⟩
abbrev main_call12_v0 : Ref sig .tc := ⟨.hbm, 335, rfl⟩
abbrev main_call12_v1 : Ref sig .tc := ⟨.hbm, 336, rfl⟩
abbrev main_v269 : Ref sig .tc := ⟨.hbm, 337, rfl⟩
abbrev main_cst_38 : Ref sig .tc := ⟨.hbm, 338, rfl⟩
abbrev main_call13_v0 : Ref sig .tc := ⟨.hbm, 339, rfl⟩
abbrev main_v270 : Ref sig .tc := ⟨.hbm, 340, rfl⟩
abbrev main_cst_39 : Ref sig .tc := ⟨.hbm, 341, rfl⟩
abbrev main_call14_v0 : Ref sig .tc := ⟨.hbm, 342, rfl⟩
abbrev main_v271 : Ref sig .tc := ⟨.hbm, 343, rfl⟩
abbrev main_cst_40 : Ref sig .tc := ⟨.hbm, 344, rfl⟩
abbrev main_call15_v0 : Ref sig .tc := ⟨.hbm, 345, rfl⟩
abbrev main_v272 : Ref sig .tc := ⟨.hbm, 346, rfl⟩
abbrev main_cst_41 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_cst_42 : Ref sig .tc := ⟨.hbm, 352, rfl⟩
abbrev main_v277 : Ref sig .tc := ⟨.hbm, 353, rfl⟩
abbrev main_v278 : Ref sig .tc := ⟨.hbm, 354, rfl⟩
abbrev main_call16_cst : Ref sig .tc := ⟨.hbm, 355, rfl⟩
abbrev main_call16_v0 : Ref sig .tc := ⟨.hbm, 356, rfl⟩
abbrev main_v279 : Ref sig .tc := ⟨.hbm, 357, rfl⟩
abbrev main_cst_43 : Ref sig .tc := ⟨.hbm, 358, rfl⟩
abbrev main_v280 : Ref sig .tc := ⟨.hbm, 359, rfl⟩
abbrev main_v281 : Ref sig .tc := ⟨.hbm, 360, rfl⟩
abbrev main_cst_44 : Ref sig .tc := ⟨.hbm, 361, rfl⟩
abbrev main_v282 : Ref sig .tc := ⟨.hbm, 362, rfl⟩
abbrev main_v283 : Ref sig .tc := ⟨.hbm, 363, rfl⟩
abbrev main_cst_45 : Ref sig .tc := ⟨.hbm, 364, rfl⟩
abbrev main_v284 : Ref sig .tc := ⟨.hbm, 365, rfl⟩
abbrev main_v285 : Ref sig .tc := ⟨.hbm, 366, rfl⟩
abbrev main_cst_46 : Ref sig .tc := ⟨.hbm, 367, rfl⟩
abbrev main_v286 : Ref sig .tc := ⟨.hbm, 368, rfl⟩
abbrev main_v287 : Ref sig .tc := ⟨.hbm, 369, rfl⟩
abbrev main_cst_47 : Ref sig .tc := ⟨.hbm, 370, rfl⟩
abbrev main_cst_48 : Ref sig .tc := ⟨.hbm, 371, rfl⟩
abbrev main_call17_v0 : Ref sig .tc := ⟨.hbm, 372, rfl⟩
abbrev main_call17_v1 : Ref sig .tc := ⟨.hbm, 373, rfl⟩
abbrev main_v288 : Ref sig .tc := ⟨.hbm, 374, rfl⟩
abbrev main_cst_49 : Ref sig .tc := ⟨.hbm, 375, rfl⟩
abbrev main_call18_v0 : Ref sig .tc := ⟨.hbm, 376, rfl⟩
abbrev main_v289 : Ref sig .tc := ⟨.hbm, 377, rfl⟩
abbrev main_cst_50 : Ref sig .tc := ⟨.hbm, 378, rfl⟩
abbrev main_call19_v0 : Ref sig .tc := ⟨.hbm, 379, rfl⟩
abbrev main_v290 : Ref sig .tc := ⟨.hbm, 380, rfl⟩
abbrev main_cst_51 : Ref sig .tc := ⟨.hbm, 381, rfl⟩
abbrev main_call20_v0 : Ref sig .tc := ⟨.hbm, 382, rfl⟩
abbrev main_v291 : Ref sig .tc := ⟨.hbm, 383, rfl⟩
abbrev main_cst_52 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_cst_53 : Ref sig .tc := ⟨.hbm, 389, rfl⟩
abbrev main_v296 : Ref sig .tc := ⟨.hbm, 390, rfl⟩
abbrev main_v297 : Ref sig .tc := ⟨.hbm, 391, rfl⟩
abbrev main_call21_cst : Ref sig .tc := ⟨.hbm, 392, rfl⟩
abbrev main_call21_v0 : Ref sig .tc := ⟨.hbm, 393, rfl⟩
abbrev main_v298 : Ref sig .tc := ⟨.hbm, 394, rfl⟩
abbrev main_cst_54 : Ref sig .tc := ⟨.hbm, 395, rfl⟩
abbrev main_v299 : Ref sig .tc := ⟨.hbm, 396, rfl⟩
abbrev main_v300 : Ref sig .tc := ⟨.hbm, 397, rfl⟩
abbrev main_cst_55 : Ref sig .tc := ⟨.hbm, 398, rfl⟩
abbrev main_v301 : Ref sig .tc := ⟨.hbm, 399, rfl⟩
abbrev main_v302 : Ref sig .tc := ⟨.hbm, 400, rfl⟩
abbrev main_cst_56 : Ref sig .tc := ⟨.hbm, 401, rfl⟩
abbrev main_v303 : Ref sig .tc := ⟨.hbm, 402, rfl⟩
abbrev main_v304 : Ref sig .tc := ⟨.hbm, 403, rfl⟩
abbrev main_cst_57 : Ref sig .tc := ⟨.hbm, 404, rfl⟩
abbrev main_v305 : Ref sig .tc := ⟨.hbm, 405, rfl⟩
abbrev main_v306 : Ref sig .tc := ⟨.hbm, 406, rfl⟩
abbrev main_cst_58 : Ref sig .tc := ⟨.hbm, 407, rfl⟩
abbrev main_cst_59 : Ref sig .tc := ⟨.hbm, 408, rfl⟩
abbrev main_call22_v0 : Ref sig .tc := ⟨.hbm, 409, rfl⟩
abbrev main_call22_v1 : Ref sig .tc := ⟨.hbm, 410, rfl⟩
abbrev main_v307 : Ref sig .tc := ⟨.hbm, 411, rfl⟩
abbrev main_cst_60 : Ref sig .tc := ⟨.hbm, 412, rfl⟩
abbrev main_call23_v0 : Ref sig .tc := ⟨.hbm, 413, rfl⟩
abbrev main_v308 : Ref sig .tc := ⟨.hbm, 414, rfl⟩
abbrev main_cst_61 : Ref sig .tc := ⟨.hbm, 415, rfl⟩
abbrev main_call24_v0 : Ref sig .tc := ⟨.hbm, 416, rfl⟩
abbrev main_v309 : Ref sig .tc := ⟨.hbm, 417, rfl⟩
abbrev main_cst_62 : Ref sig .tc := ⟨.hbm, 418, rfl⟩
abbrev main_call25_v0 : Ref sig .tc := ⟨.hbm, 419, rfl⟩
abbrev main_v310 : Ref sig .tc := ⟨.hbm, 420, rfl⟩
abbrev main_cst_63 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_cst_64 : Ref sig .tc := ⟨.hbm, 426, rfl⟩
abbrev main_v315 : Ref sig .tc := ⟨.hbm, 427, rfl⟩
abbrev main_v316 : Ref sig .tc := ⟨.hbm, 428, rfl⟩

abbrev nD : Nat := 1
abbrev τ : Topo := Topo.v7x

variable {F : FTy → Type} [FloatOps F]
-- ==== Proof.Stages.lean ====
module

public import proofs.«01_k».proof.Proof.Gen.KernelIdeal.Frame

@[expose] public section

/-! The kernel body's work on ONE sample, as functions of the sample's row of logits and of the seven other input blocks.
    The body does the same to each of its 32 samples; `Proof.Link` says that what it stores for sample `s` is these
    functions at row `s`. -/

set_option maxRecDepth 16384

noncomputable section

namespace Cert.KernelIdeal.Stage

open Idealize.ShloMosaic Idealize.SL.Sem Cert.KernelIdeal.Gen

variable {F : FTy → Type} [FloatOps F] [Named F]

/-- The first of the three bfloat16 parts of a vector. -/
def hi {s : Shape} (v : FVec F s .f32) : FVec F s .f32 := extf .f32 (truncf .bf16 v bitsLt_bf16_f32) bitsLt_bf16_f32

/-- The second part. -/
def lo {s : Shape} (v : FVec F s .f32) : FVec F s .f32 := hi (subf v (hi v))

/-- What the first two parts leave. -/
def rest {s : Shape} (v : FVec F s .f32) : FVec F s .f32 := subf (subf v (hi v)) (lo v)

/-- One where the bit is set, zero elsewhere. -/
def ind {s : Shape} (c : IVec s 1) : FVec F s .bf16 :=
  truncf .bf16 (select c (broadcast s (Scalar.ofBits .f32 0x3F800000#32)) (broadcast s (Scalar.ofBits .f32 0x00000000#32)))
    bitsLt_bf16_f32

/-- Entry `j` of a row of 192, at every column `i` of row `j`. -/
def col192 (v : FVec F S1x192 .f32) : FVec F S192x192 .f32 :=
  addf (addf (matmul dot_S1x192_S1x192_S192x192_0_0_1_1_n_n none (truncf .bf16 (hi v) bitsLt_bf16_f32) (broadcast S1x192 (Scalar.ofBits .bf16 0x3F80#16))
      (constant S192x192 .f32 0x00000000#32))
    (matmul dot_S1x192_S1x192_S192x192_0_0_1_1_n_n none (truncf .bf16 (lo v) bitsLt_bf16_f32) (broadcast S1x192 (Scalar.ofBits .bf16 0x3F80#16))
      (constant S192x192 .f32 0x00000000#32)))
    (matmul dot_S1x192_S1x192_S192x192_0_0_1_1_n_n none (truncf .bf16 (rest v) bitsLt_bf16_f32) (broadcast S1x192 (Scalar.ofBits .bf16 0x3F80#16))
      (constant S192x192 .f32 0x00000000#32))

/-- Entry `i` of a row of 192, at every row `j` of column `i`. -/
def row192 (v : FVec F S1x192 .f32) : FVec F S192x192 .f32 :=
  broadcastTo S192x192 (shapeCast S1x192 v shapeCasts_S1x192_S1x192) broadcasts_S1x192_S192x192

/-- Whether entry `j` of the row sorts before entry `i` (ties by position), at `(j, i)`. -/
def before192 (v : FVec F S1x192 .f32) : FVec F S192x192 .bf16 :=
  ind (ori (cmpf .olt (col192 v) (row192 v)) (andi (cmpf .oeq (col192 v) (row192 v))
    (cmpi .slt (iota .tc S192x192 32 [0] iota_S192x192_d0_w32) (iota .tc S192x192 32 [1] iota_S192x192_d1_w32))))

/-- One at `(j, r)` where `r` is `191` less the row sum `j` of a 0/1 matrix: the permutation matrix of the ranks. -/
def ranks192 (c : FVec F S192x192 .bf16) : FVec F S192x192 .bf16 :=
  ind (cmpf .oeq (broadcastTo S192x192 (shapeCast S192x1 (subf (broadcast S192x1 (Scalar.ofBits .f32 0x433F0000#32))
    (matmul dot_S192x192_S192x1_S192x1_1_0_0_1_n_n none c (broadcast S192x1 (Scalar.ofBits .bf16 0x3F80#16))
      (constant S192x1 .f32 0x00000000#32))) shapeCasts_S192x1_S192x1) broadcasts_S192x1_S192x192)
    (sitofp .f32 (iota .tc S192x192 32 [1] iota_S192x192_d1_w32)))

/-- Entry `j` of a row of 64, at every column `i` of row `j`. -/
def col64 (v : FVec F S1x64 .f32) : FVec F S64x64 .f32 :=
  addf (addf (matmul dot_S1x64_S1x64_S64x64_0_0_1_1_n_n none (truncf .bf16 (hi v) bitsLt_bf16_f32) (broadcast S1x64 (Scalar.ofBits .bf16 0x3F80#16))
      (constant S64x64 .f32 0x00000000#32))
    (matmul dot_S1x64_S1x64_S64x64_0_0_1_1_n_n none (truncf .bf16 (lo v) bitsLt_bf16_f32) (broadcast S1x64 (Scalar.ofBits .bf16 0x3F80#16))
      (constant S64x64 .f32 0x00000000#32)))
    (matmul dot_S1x64_S1x64_S64x64_0_0_1_1_n_n none (truncf .bf16 (rest v) bitsLt_bf16_f32) (broadcast S1x64 (Scalar.ofBits .bf16 0x3F80#16))
      (constant S64x64 .f32 0x00000000#32))

/-- Entry `i` of a row of 64, at every row `j` of column `i`. -/
def row64 (v : FVec F S1x64 .f32) : FVec F S64x64 .f32 :=
  broadcastTo S64x64 (shapeCast S1x64 v shapeCasts_S1x64_S1x64) broadcasts_S1x64_S64x64

/-- Whether entry `j` of the row sorts before entry `i` (ties by position), at `(j, i)`. -/
def before64 (v : FVec F S1x64 .f32) : FVec F S64x64 .bf16 :=
  ind (ori (cmpf .olt (col64 v) (row64 v)) (andi (cmpf .oeq (col64 v) (row64 v))
    (cmpi .slt (iota .tc S64x64 32 [0] iota_S64x64_d0_w32) (iota .tc S64x64 32 [1] iota_S64x64_d1_w32))))

/-- One at `(j, r)` where `r` is `63` less the row sum `j` of a 0/1 matrix: the permutation matrix of the ranks. -/
def ranks64 (c : FVec F S64x64 .bf16) : FVec F S64x64 .bf16 :=
  ind (cmpf .oeq (broadcastTo S64x64 (shapeCast S64x1 (subf (broadcast S64x1 (Scalar.ofBits .f32 0x427C0000#32))
    (matmul dot_S64x64_S64x1_S64x1_1_0_0_1_n_n none c (broadcast S64x1 (Scalar.ofBits .bf16 0x3F80#16))
      (constant S64x1 .f32 0x00000000#32))) shapeCasts_S64x1_S64x1) broadcasts_S64x1_S64x64)
    (sitofp .f32 (iota .tc S64x64 32 [1] iota_S64x64_d1_w32)))

/-- The ranks of the entries as a row: the column sums of a 0/1 matrix. -/
def rankRow (c : FVec F S192x192 .bf16) : FVec F S1x192 .f32 :=
  matmul dot_S1x192_S192x192_S1x192_1_0_0_1_n_n none (broadcast S1x192 (Scalar.ofBits .bf16 0x3F80#16)) c
    (constant S1x192 .f32 0x00000000#32)

/-- The addresses in sorted order, as floats: the row of positions times the permutation matrix of the ranks. -/
def sorted (c : FVec F S192x192 .bf16) : FVec F S1x192 .f32 :=
  matmul dot_S1x192_S192x192_S1x192_1_0_0_1_n_n none
    (truncf .bf16 (extractStridedSlice S1x192 ![0, 0] (sitofp .f32 (iota .tc S192x192 32 [1] iota_S192x192_d1_w32))
      slices_S192x192_o0_0_S1x192) bitsLt_bf16_f32)
    (ranks192 c) (constant S1x192 .f32 0x00000000#32)

/-- The column of each of 64 pixels of an image eight wide. -/
def xi : IVec S1x64 32 :=
  have v8 : IVec S1x64 32 := iota .tc S1x64 32 [1] iota_S1x64_d1_w32
  let v9 : BitVec 1 := Scalar.cmpi .eq 8#32 0#32
  let v10 : BitVec 32 := Scalar.select v9 1#32 8#32
  have v11 : IVec S1x64 32 := broadcast S1x64 v10
  have v12 : IVec S1x64 32 := remsi v8 v11
  have v13 : IVec S1x64 32 := broadcast S1x64 0#32
  have v14 : IVec S1x64 1 := cmpi .ne v12 v13
  have v15 : IVec S1x64 32 := broadcast S1x64 0#32
  have v16 : IVec S1x64 1 := cmpi .slt v12 v15
  let v17 : BitVec 1 := Scalar.cmpi .slt v10 0#32
  have v18 : IVec S1x64 1 := broadcast S1x64 v17
  have v19 : IVec S1x64 1 := broadcastTo S1x64 v18 broadcasts_S1x64_S1x64
  have v20 : IVec S1x64 1 := xori v16 v19
  have v21 : IVec S1x64 1 := andi v20 v14
  have v22 : IVec S1x64 32 := broadcast S1x64 v10
  have v23 : IVec S1x64 32 := addi v12 v22
  have v24 : IVec S1x64 32 := select v21 v23 v12
  v24

/-- The column of each of 192 pixels of an image eight wide. -/
def xi2 : IVec S1x192 32 :=
  have v25 : IVec S1x192 32 := iota .tc S1x192 32 [1] iota_S1x192_d1_w32
  let v26 : BitVec 1 := Scalar.cmpi .eq 8#32 0#32
  let v27 : BitVec 32 := Scalar.select v26 1#32 8#32
  have v28 : IVec S1x192 32 := broadcast S1x192 v27
  have v29 : IVec S1x192 32 := remsi v25 v28
  have v30 : IVec S1x192 32 := broadcast S1x192 0#32
  have v31 : IVec S1x192 1 := cmpi .ne v29 v30
  have v32 : IVec S1x192 32 := broadcast S1x192 0#32
  have v33 : IVec S1x192 1 := cmpi .slt v29 v32
  let v34 : BitVec 1 := Scalar.cmpi .slt v27 0#32
  have v35 : IVec S1x192 1 := broadcast S1x192 v34
  have v36 : IVec S1x192 1 := broadcastTo S1x192 v35 broadcasts_S1x192_S1x192
  have v37 : IVec S1x192 1 := xori v33 v36
  have v38 : IVec S1x192 1 := andi v37 v31
  have v39 : IVec S1x192 32 := broadcast S1x192 v27
  have v40 : IVec S1x192 32 := addi v29 v39
  have v41 : IVec S1x192 32 := select v38 v40 v29
  v41

/-- The first sixty-four sorted addresses with sixteen zeros on each side. -/
def addrPad0 (sf : FVec F S1x192 .f32) : FVec F S1x96 .f32 :=
  concatenate S1x96 1 [⟨S1x80, concatenate S1x80 1 [⟨S1x16, broadcast S1x16 (Scalar.sitofp .f32 0#32)⟩,
    ⟨S1x64, extractStridedSlice S1x64 ![0, 0] sf slices_S1x192_o0_0_S1x64⟩] concatenates_S1x16_S1x64_S1x80_d1⟩,
    ⟨S1x16, broadcast S1x16 (Scalar.sitofp .f32 0#32)⟩] concatenates_S1x80_S1x16_S1x96_d1

/-- The second sixty-four sorted addresses with sixteen zeros on each side. -/
def addrPad1 (sf : FVec F S1x192 .f32) : FVec F S1x96 .f32 :=
  concatenate S1x96 1 [⟨S1x80, concatenate S1x80 1 [⟨S1x16, broadcast S1x16 (Scalar.sitofp .f32 0#32)⟩,
    ⟨S1x64, extractStridedSlice S1x64 ![0, 64] sf slices_S1x192_o0_64_S1x64⟩] concatenates_S1x16_S1x64_S1x80_d1⟩,
    ⟨S1x16, broadcast S1x16 (Scalar.sitofp .f32 0#32)⟩] concatenates_S1x80_S1x16_S1x96_d1

/-- The third sixty-four sorted addresses with sixteen zeros on each side. -/
def addrPad2 (sf : FVec F S1x192 .f32) : FVec F S1x96 .f32 :=
  concatenate S1x96 1 [⟨S1x80, concatenate S1x80 1 [⟨S1x16, broadcast S1x16 (Scalar.sitofp .f32 0#32)⟩,
    ⟨S1x64, extractStridedSlice S1x64 ![0, 128] sf slices_S1x192_o0_128_S1x64⟩] concatenates_S1x16_S1x64_S1x80_d1⟩,
    ⟨S1x16, broadcast S1x16 (Scalar.sitofp .f32 0#32)⟩] concatenates_S1x80_S1x16_S1x96_d1

/-- Zero in the first column of an image of 64 pixels. -/
def maskLeft (v : FVec F S1x64 .f32) : FVec F S1x64 .f32 :=
  select (cmpi .eq xi (broadcast S1x64 0#32)) (broadcast S1x64 (Scalar.ofBits .f32 0x00000000#32)) v

/-- Zero in the last column of an image of 64 pixels. -/
def maskRight (v : FVec F S1x64 .f32) : FVec F S1x64 .f32 :=
  select (cmpi .eq xi (broadcast S1x64 7#32)) (broadcast S1x64 (Scalar.ofBits .f32 0x00000000#32)) v

/-- The nine shifted images of each of the three address grids, one per row. -/
def patches (sf : FVec F S1x192 .f32) : FVec F S27x64 .f32 :=
  concatenate S27x64 0 [⟨S1x64, (maskLeft (extractStridedSlice S1x64 ![0, 7] (addrPad0 sf) slices_S1x96_o0_7_S1x64))⟩, ⟨S1x64, (extractStridedSlice S1x64 ![0, 8] (addrPad0 sf) slices_S1x96_o0_8_S1x64)⟩, ⟨S1x64, (maskRight (extractStridedSlice S1x64 ![0, 9] (addrPad0 sf) slices_S1x96_o0_9_S1x64))⟩, ⟨S1x64, (maskLeft (extractStridedSlice S1x64 ![0, 15] (addrPad0 sf) slices_S1x96_o0_15_S1x64))⟩, ⟨S1x64, (extractStridedSlice S1x64 ![0, 16] (addrPad0 sf) slices_S1x96_o0_16_S1x64)⟩, ⟨S1x64, (maskRight (extractStridedSlice S1x64 ![0, 17] (addrPad0 sf) slices_S1x96_o0_17_S1x64))⟩, ⟨S1x64, (maskLeft (extractStridedSlice S1x64 ![0, 23] (addrPad0 sf) slices_S1x96_o0_23_S1x64))⟩, ⟨S1x64, (extractStridedSlice S1x64 ![0, 24] (addrPad0 sf) slices_S1x96_o0_24_S1x64)⟩, ⟨S1x64, (maskRight (extractStridedSlice S1x64 ![0, 25] (addrPad0 sf) slices_S1x96_o0_25_S1x64))⟩, ⟨S1x64, (maskLeft (extractStridedSlice S1x64 ![0, 7] (addrPad1 sf) slices_S1x96_o0_7_S1x64))⟩, ⟨S1x64, (extractStridedSlice S1x64 ![0, 8] (addrPad1 sf) slices_S1x96_o0_8_S1x64)⟩, ⟨S1x64, (maskRight (extractStridedSlice S1x64 ![0, 9] (addrPad1 sf) slices_S1x96_o0_9_S1x64))⟩, ⟨S1x64, (maskLeft (extractStridedSlice S1x64 ![0, 15] (addrPad1 sf) slices_S1x96_o0_15_S1x64))⟩, ⟨S1x64, (extractStridedSlice S1x64 ![0, 16] (addrPad1 sf) slices_S1x96_o0_16_S1x64)⟩, ⟨S1x64, (maskRight (extractStridedSlice S1x64 ![0, 17] (addrPad1 sf) slices_S1x96_o0_17_S1x64))⟩, ⟨S1x64, (maskLeft (extractStridedSlice S1x64 ![0, 23] (addrPad1 sf) slices_S1x96_o0_23_S1x64))⟩, ⟨S1x64, (extractStridedSlice S1x64 ![0, 24] (addrPad1 sf) slices_S1x96_o0_24_S1x64)⟩, ⟨S1x64, (maskRight (extractStridedSlice S1x64 ![0, 25] (addrPad1 sf) slices_S1x96_o0_25_S1x64))⟩, ⟨S1x64, (maskLeft (extractStridedSlice S1x64 ![0, 7] (addrPad2 sf) slices_S1x96_o0_7_S1x64))⟩, ⟨S1x64, (extractStridedSlice S1x64 ![0, 8] (addrPad2 sf) slices_S1x96_o0_8_S1x64)⟩, ⟨S1x64, (maskRight (extractStridedSlice S1x64 ![0, 9] (addrPad2 sf) slices_S1x96_o0_9_S1x64))⟩, ⟨S1x64, (maskLeft (extractStridedSlice S1x64 ![0, 15] (addrPad2 sf) slices_S1x96_o0_15_S1x64))⟩, ⟨S1x64, (extractStridedSlice S1x64 ![0, 16] (addrPad2 sf) slices_S1x96_o0_16_S1x64)⟩, ⟨S1x64, (maskRight (extractStridedSlice S1x64 ![0, 17] (addrPad2 sf) slices_S1x96_o0_17_S1x64))⟩, ⟨S1x64, (maskLeft (extractStridedSlice S1x64 ![0, 23] (addrPad2 sf) slices_S1x96_o0_23_S1x64))⟩, ⟨S1x64, (extractStridedSlice S1x64 ![0, 24] (addrPad2 sf) slices_S1x96_o0_24_S1x64)⟩, ⟨S1x64, (maskRight (extractStridedSlice S1x64 ![0, 25] (addrPad2 sf) slices_S1x96_o0_25_S1x64))⟩]
    concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S27x64_d0

/-- The 24 feature rows: the products of the weights with the shifted grids, the bias added, negatives cut. -/
def feats24 (w1 : FVec F S24x27 .f32) (cb : FVec F S24x1 .f32) (sf : FVec F S1x192 .f32) : FVec F S24x64 .f32 :=
  maximumf (addf (matmul dot_S24x27_S27x64_S24x64_1_0_0_1_n_n none
    (truncf .bf16 (shapeCast S24x27 w1 shapeCasts_S24x27_S24x27) bitsLt_bf16_f32) (truncf .bf16 (patches sf) bitsLt_bf16_f32)
    (constant S24x64 .f32 0x00000000#32))
    (broadcastTo S24x64 (shapeCast S24x1 cb shapeCasts_S24x1_S24x1) broadcasts_S24x1_S24x64)) (broadcast S24x64 (Scalar.ofBits .f32 0x00000000#32))

/-- The 8 features of each of the 192 elements. -/
def feats (w1 : FVec F S24x27 .f32) (cb : FVec F S24x1 .f32) (sf : FVec F S1x192 .f32) : FVec F S8x192 .f32 :=
  concatenate S8x192 1 [⟨S8x64, extractStridedSlice S8x64 ![0, 0] (feats24 w1 cb sf) slices_S24x64_o0_0_S8x64⟩,
    ⟨S8x64, extractStridedSlice S8x64 ![8, 0] (feats24 w1 cb sf) slices_S24x64_o8_0_S8x64⟩,
    ⟨S8x64, extractStridedSlice S8x64 ![16, 0] (feats24 w1 cb sf) slices_S24x64_o16_0_S8x64⟩] concatenates_S8x64_S8x64_S8x64_S8x192_d1

/-- The memory: the features of the element of rank `i`'s place, at address `i`. -/
def memory (w1 : FVec F S24x27 .f32) (cb : FVec F S24x1 .f32) (c : FVec F S192x192 .bf16) (sf : FVec F S1x192 .f32) :
    FVec F S8x192 .f32 :=
  matmul dot_S8x192_S192x192_S8x192_1_0_0_1_n_n none (truncf .bf16 (feats w1 cb sf) bitsLt_bf16_f32)
    (ind (cmpf .oeq (row192 (rankRow c)) (sitofp .f32 (iota .tc S192x192 32 [0] iota_S192x192_d0_w32))))
    (constant S8x192 .f32 0x00000000#32)

/-- The memory image with sixteen zeros on each side. -/
def memPad (mem : FVec F S8x192 .f32) : FVec F S8x224 .f32 :=
  concatenate S8x224 1 [⟨S8x208, concatenate S8x208 1 [⟨S8x16, broadcast S8x16 (Scalar.sitofp .f32 0#32)⟩, ⟨S8x192, mem⟩]
    concatenates_S8x16_S8x192_S8x208_d1⟩, ⟨S8x16, broadcast S8x16 (Scalar.sitofp .f32 0#32)⟩] concatenates_S8x208_S8x16_S8x224_d1

/-- Zero in the first column of the memory image. -/
def maskLeft8 (v : FVec F S8x192 .f32) : FVec F S8x192 .f32 :=
  select (broadcastTo S8x192 (shapeCast S1x192 (cmpi .eq xi2 (broadcast S1x192 0#32)) shapeCasts_S1x192_S1x192)
    broadcasts_S1x192_S8x192) (broadcast S8x192 (Scalar.ofBits .f32 0x00000000#32)) v

/-- Zero in the last column of the memory image. -/
def maskRight8 (v : FVec F S8x192 .f32) : FVec F S8x192 .f32 :=
  select (broadcastTo S8x192 (shapeCast S1x192 (cmpi .eq xi2 (broadcast S1x192 7#32)) shapeCasts_S1x192_S1x192)
    broadcasts_S1x192_S8x192) (broadcast S8x192 (Scalar.ofBits .f32 0x00000000#32)) v

/-- The nine shifted images of the memory, eight rows each. -/
def memPatches (mem : FVec F S8x192 .f32) : FVec F S72x192 .f32 :=
  concatenate S72x192 0 [⟨S8x192, (maskLeft8 (extractStridedSlice S8x192 ![0, 7] (memPad mem) slices_S8x224_o0_7_S8x192))⟩, ⟨S8x192, (extractStridedSlice S8x192 ![0, 8] (memPad mem) slices_S8x224_o0_8_S8x192)⟩, ⟨S8x192, (maskRight8 (extractStridedSlice S8x192 ![0, 9] (memPad mem) slices_S8x224_o0_9_S8x192))⟩, ⟨S8x192, (maskLeft8 (extractStridedSlice S8x192 ![0, 15] (memPad mem) slices_S8x224_o0_15_S8x192))⟩, ⟨S8x192, (extractStridedSlice S8x192 ![0, 16] (memPad mem) slices_S8x224_o0_16_S8x192)⟩, ⟨S8x192, (maskRight8 (extractStridedSlice S8x192 ![0, 17] (memPad mem) slices_S8x224_o0_17_S8x192))⟩, ⟨S8x192, (maskLeft8 (extractStridedSlice S8x192 ![0, 23] (memPad mem) slices_S8x224_o0_23_S8x192))⟩, ⟨S8x192, (extractStridedSlice S8x192 ![0, 24] (memPad mem) slices_S8x224_o0_24_S8x192)⟩, ⟨S8x192, (maskRight8 (extractStridedSlice S8x192 ![0, 25] (memPad mem) slices_S8x224_o0_25_S8x192))⟩]
    concatenates_S8x192_S8x192_S8x192_S8x192_S8x192_S8x192_S8x192_S8x192_S8x192_S72x192_d0

/-- The 16 rows of the memory's convolution. -/
def conv2 (w2 : FVec F S16x72 .f32) (mb : FVec F S16x1 .f32) (mem : FVec F S8x192 .f32) : FVec F S16x192 .f32 :=
  maximumf (addf (matmul dot_S16x72_S72x192_S16x192_1_0_0_1_n_n none
    (truncf .bf16 (shapeCast S16x72 w2 shapeCasts_S16x72_S16x72) bitsLt_bf16_f32) (truncf .bf16 (memPatches mem) bitsLt_bf16_f32)
    (constant S16x192 .f32 0x00000000#32))
    (broadcastTo S16x192 (shapeCast S16x1 mb shapeCasts_S16x1_S16x1) broadcasts_S16x1_S16x192)) (broadcast S16x192 (Scalar.ofBits .f32 0x00000000#32))

/-- The means over the sixteen windows of 6 by 2 pixels. -/
def pooled (pool : FVec F S192x16 .f32) (mc : FVec F S16x192 .f32) : FVec F S16x16 .f32 :=
  mulf (matmul dot_S16x192_S192x16_S16x16_1_0_0_1_n_n (some .fp32) mc pool (constant S16x16 .f32 0x00000000#32))
    (broadcast S16x16 (Named.named κ "twelfth" 0x3DAAAAAB#32))

/-- The 64 operation logits. -/
def opLogits (pwt : FVec F S64x16x16 .f32) (pb : FVec F S1x64 .f32) (q : FVec F S16x16 .f32) : FVec F S1x64 .f32 :=
  addf (shapeCast S1x64 (multiReduction .add [1] S64 (multiReduction .add [2] S64x16
    (mulf (hi (shapeCast S64x16x16 pwt shapeCasts_S64x16x16_S64x16x16))
      (broadcastTo S64x16x16 (shapeCast S1x16x16 (hi q) shapeCasts_S16x16_S1x16x16) broadcasts_S1x16x16_S64x16x16))
    0x00000000#32 reduces_S64x16x16_S64x16 (.inl rfl) rfl) 0x00000000#32 reduces_S64x16_S64 (.inl rfl) rfl) shapeCasts_S64_S1x64)
    (shapeCast S1x64 pb shapeCasts_S1x64_S1x64)

/-- The first sixty-four sorted addresses in the operations' order. -/
def s0 (sf : FVec F S1x192 .f32) (ol : FVec F S1x64 .f32) : FVec F S64 .f32 :=
  shapeCast S64 (matmul dot_S1x64_S64x64_S1x64_1_0_0_1_n_n none
    (truncf .bf16 (extractStridedSlice S1x64 ![0, 0] sf slices_S1x192_o0_0_S1x64) bitsLt_bf16_f32)
    (ranks64 (before64 ol)) (constant S1x64 .f32 0x00000000#32)) shapeCasts_S1x64_S64

/-- The second sixty-four sorted addresses in the operations' order. -/
def s1 (sf : FVec F S1x192 .f32) (ol : FVec F S1x64 .f32) : FVec F S64 .f32 :=
  shapeCast S64 (matmul dot_S1x64_S64x64_S1x64_1_0_0_1_n_n none
    (truncf .bf16 (extractStridedSlice S1x64 ![0, 64] sf slices_S1x192_o0_64_S1x64) bitsLt_bf16_f32)
    (ranks64 (before64 ol)) (constant S1x64 .f32 0x00000000#32)) shapeCasts_S1x64_S64

/-- The third sixty-four sorted addresses in the operations' order. -/
def d (sf : FVec F S1x192 .f32) (ol : FVec F S1x64 .f32) : FVec F S64 .f32 :=
  shapeCast S64 (matmul dot_S1x64_S64x64_S1x64_1_0_0_1_n_n none
    (truncf .bf16 (extractStridedSlice S1x64 ![0, 128] sf slices_S1x192_o0_128_S1x64) bitsLt_bf16_f32)
    (ranks64 (before64 ol)) (constant S1x64 .f32 0x00000000#32)) shapeCasts_S1x64_S64

/-- The hop multiplier at each entry of a vector of 63 hops. -/
def staged63 (h : FVec F S63 .f32) : FVec F S63 .f32 :=
  select (cmpf .ole h (broadcast S63 (Scalar.ofBits .f32 0x40000000#32))) (broadcast S63 (Scalar.ofBits .f32 0x3F800000#32))
    (select (cmpf .ole h (broadcast S63 (Scalar.ofBits .f32 0x40800000#32))) (broadcast S63 (Scalar.ofBits .f32 0x3FC00000#32))
      (select (cmpf .ole h (broadcast S63 (Scalar.ofBits .f32 0x41000000#32))) (broadcast S63 (Scalar.ofBits .f32 0x40000000#32))
        (select (cmpf .ole h (broadcast S63 (Scalar.ofBits .f32 0x41800000#32))) (broadcast S63 (Scalar.ofBits .f32 0x40400000#32))
          (broadcast S63 (Scalar.ofBits .f32 0x40A00000#32)))))

/-- The total penalty of 63 jumps, in every one of 128 lanes. -/
def penalty63 (x : FVec F S63 .f32) : FVec F S1x1x128 .f32 :=
  have f : FVec F S63 .f32 := maximumf x (broadcast S63 (Scalar.ofBits .f32 0x00000000#32))
  have b : FVec F S63 .f32 := maximumf (subf (broadcast S63 (Scalar.ofBits .f32 0x00000000#32)) x) (broadcast S63 (Scalar.ofBits .f32 0x00000000#32))
  shapeCast S1x1x128 (addf (broadcast S128 (Scalar.ofBits .f32 0x00000000#32)) (broadcast S128 (extractAt ![0, 0] (shapeCast S1x1 (multiReduction .add [1] S1
    (shapeCast S1x63 (addf (mulf f (staged63 f)) (mulf (mulf b b) (staged63 b))) shapeCasts_S63_S1x63) 0x00000000#32
    reduces_S1x63_S1 (.inl rfl) rfl) shapeCasts_S1_S1x1) inpos_S1x1_p0_0))) shapeCasts_S128_S1x1x128

/-- The hop multiplier at each entry of a vector of 128 hops. -/
def staged128 (h : FVec F S128 .f32) : FVec F S128 .f32 :=
  select (cmpf .ole h (broadcast S128 (Scalar.ofBits .f32 0x40000000#32))) (broadcast S128 (Scalar.ofBits .f32 0x3F800000#32))
    (select (cmpf .ole h (broadcast S128 (Scalar.ofBits .f32 0x40800000#32))) (broadcast S128 (Scalar.ofBits .f32 0x3FC00000#32))
      (select (cmpf .ole h (broadcast S128 (Scalar.ofBits .f32 0x41000000#32))) (broadcast S128 (Scalar.ofBits .f32 0x40000000#32))
        (select (cmpf .ole h (broadcast S128 (Scalar.ofBits .f32 0x41800000#32))) (broadcast S128 (Scalar.ofBits .f32 0x40400000#32))
          (broadcast S128 (Scalar.ofBits .f32 0x40A00000#32)))))

/-- The total penalty of 128 jumps, in every one of 128 lanes. -/
def penalty128 (x : FVec F S128 .f32) : FVec F S1x1x128 .f32 :=
  have f : FVec F S128 .f32 := maximumf x (broadcast S128 (Scalar.ofBits .f32 0x00000000#32))
  have b : FVec F S128 .f32 := maximumf (subf (broadcast S128 (Scalar.ofBits .f32 0x00000000#32)) x) (broadcast S128 (Scalar.ofBits .f32 0x00000000#32))
  shapeCast S1x1x128 (addf (broadcast S128 (Scalar.ofBits .f32 0x00000000#32)) (broadcast S128 (extractAt ![0, 0] (shapeCast S1x1 (multiReduction .add [1] S1
    (shapeCast S1x128 (addf (mulf f (staged128 f)) (mulf (mulf b b) (staged128 b))) shapeCasts_S128_S1x128) 0x00000000#32
    reduces_S1x128_S1 (.inl rfl) rfl) shapeCasts_S1_S1x1) inpos_S1x1_p0_0))) shapeCasts_S128_S1x1x128

/-- What is stored to the first output: the penalty of the jumps between operations. -/
def interOut (sf : FVec F S1x192 .f32) (ol : FVec F S1x64 .f32) : FVec F S1x1x128 .f32 :=
  penalty63 (subf (extractStridedSlice S63 ![1] (s0 sf ol) slices_S64_o1_S63)
    (extractStridedSlice S63 ![0] (d sf ol) slices_S64_o0_S63))

/-- What is stored to the second output: the penalty of the jumps within operations. -/
def intraOut (sf : FVec F S1x192 .f32) (ol : FVec F S1x64 .f32) : FVec F S1x1x128 .f32 :=
  penalty128 (concatenate S128 0 [⟨S64, subf (s1 sf ol) (s0 sf ol)⟩, ⟨S64, subf (d sf ol) (s1 sf ol)⟩] concatenates_S64_S64_S128_d0)

/-- The comparison matrix of a sample from its row as loaded. -/
def cmpOf (x : FVec F S1x1x192 .f32) : FVec F S192x192 .bf16 := before192 (shapeCast S1x192 x shapeCasts_S1x1x192_S1x192)

/-- The operation logits of a sample from its comparison matrix. -/
def olOf (c : FVec F S192x192 .bf16) (x1 : FVec F S24x27 .f32) (x2 : FVec F S24x1 .f32) (x3 : FVec F S16x72 .f32)
    (x4 : FVec F S16x1 .f32) (x5 : FVec F S64x16x16 .f32) (x6 : FVec F S1x64 .f32) (x7 : FVec F S192x16 .f32) : FVec F S1x64 .f32 :=
  opLogits x5 x6 (pooled x7 (conv2 x3 x4 (memory x1 x2 c (sorted c))))

end Cert.KernelIdeal.Stage
-- ==== Proof.Order.lean ====
module

public import Idealize.ShloMosaic.Lib.Pointwise
public import Mathlib.Data.EReal.Operations

@[expose] public section

/-! Counting in a strict order of `n` values with ties broken by position: the number of entries before an entry is its
    place in sorted order. -/

namespace Cert.Order

open Finset

/-- Entry `j` sorts before entry `i`: smaller, or equal and earlier. -/
def Before {n : ℕ} (v : Fin n → EReal) (j i : Fin n) : Prop := v j < v i ∨ (v j = v i ∧ j < i)

/-- Whether `j` comes before `i` can be decided. -/
noncomputable instance {n : ℕ} (v : Fin n → EReal) (j i : Fin n) : Decidable (Before v j i) := Classical.propDecidable _

/-- `σ` lists the entries in sorted order. -/
def Sorts {n : ℕ} (v : Fin n → EReal) (σ : Equiv.Perm (Fin n)) : Prop := ∀ a b, a < b → Before v (σ a) (σ b)

variable {n : ℕ} {v : Fin n → EReal} {σ : Equiv.Perm (Fin n)}

/-- Nothing comes before itself. -/
theorem before_irrefl (i : Fin n) : ¬ Before v i i := by
  rintro (h | ⟨_, h⟩) <;> exact lt_irrefl _ h

/-- Of two positions at most one comes before the other. -/
theorem before_asymm {i j : Fin n} (h : Before v i j) : ¬ Before v j i := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

/-- In sorted order, being before is being at a smaller place. -/
theorem before_iff (h : Sorts v σ) (a b : Fin n) : Before v (σ a) (σ b) ↔ a < b := by
  refine ⟨fun hb => ?_, h a b⟩
  rcases lt_trichotomy a b with hab | rfl | hab
  · exact hab
  · exact absurd hb (before_irrefl _)
  · exact absurd hb (before_asymm (h b a hab))

/-- The number of entries before entry `i` is its place. -/
theorem sum_before (h : Sorts v σ) (i : Fin n) :
    (∑ j, if Before v j i then (1 : EReal) else 0) = (((σ.symm i).val : ℕ) : EReal) := by
  rw [← Equiv.sum_comp σ]
  conv_lhs => enter [2, a]; rw [if_congr (by rw [← σ.apply_symm_apply i, before_iff h]) rfl rfl]
  rw [← Finset.natCast_card_filter]
  congr 1
  have : (Finset.univ.filter fun a : Fin n => a < σ.symm i) = Finset.Iio (σ.symm i) := by ext; simp
  simp [this]

/-- The number of entries after entry `j` is the number of places after its place. -/
theorem sum_after (h : Sorts v σ) (j : Fin n) :
    (∑ i, if Before v j i then (1 : EReal) else 0) = ((n - 1 - (σ.symm j).val : ℕ) : EReal) := by
  rw [← Equiv.sum_comp σ]
  conv_lhs => enter [2, a]; rw [if_congr (by rw [← σ.apply_symm_apply j, before_iff h]) rfl rfl]
  rw [← Finset.natCast_card_filter]
  congr 1
  have : (Finset.univ.filter fun a : Fin n => σ.symm j < a) = Finset.Ioi (σ.symm j) := by ext; simp
  simp [this]

/-- A natural number less another, in the extended reals. -/
theorem natCast_sub_eq {a b c : ℕ} (h : b ≤ a) : ((a : ℕ) : EReal) - (b : EReal) = (c : EReal) ↔ a - b = c := by
  have e : ((a : ℕ) : EReal) - (b : EReal) = ((a - b : ℕ) : EReal) := by
    rw [show ((a : ℕ) : EReal) = (((a : ℕ) : ℝ) : EReal) from rfl, show ((b : ℕ) : EReal) = (((b : ℕ) : ℝ) : EReal) from rfl,
      show ((a - b : ℕ) : EReal) = (((a - b : ℕ) : ℝ) : EReal) from rfl, ← EReal.coe_sub, Nat.cast_sub h]
  rw [e]; exact Nat.cast_inj

/-- A row times the permutation matrix of the ranks reads the row at the place's entry. -/
theorem sum_mul_ranks (f : Fin n → EReal) (r : Fin n) :
    (∑ j, f j * (if (σ.symm j).val = r.val then (1 : EReal) else 0)) = f (σ r) := by
  simp only [mul_ite, mul_one, mul_zero]
  rw [Finset.sum_eq_single (σ r)]
  · simp
  · intro b _ hb
    rw [if_neg]
    intro e
    exact hb (by rw [← Fin.ext e, σ.apply_symm_apply])
  · simp

/-- The other way round: at the entry's place. -/
theorem sum_mul_place (f : Fin n → EReal) (i : Fin n) :
    (∑ k, f k * (if (σ.symm i).val = k.val then (1 : EReal) else 0)) = f (σ.symm i) := by
  simp only [mul_ite, mul_one, mul_zero]
  rw [Finset.sum_eq_single (σ.symm i)]
  · simp
  · intro b _ hb
    rw [if_neg]
    intro e
    exact hb (Fin.ext e.symm)
  · simp

end Cert.Order
-- ==== Proof.Spec.lean ====
module

public import proofs.«01_k».proof.Proof.Order

@[expose] public section

/-! The mathematics of one sample on extended reals, by plain sums: what both programs compute for it. -/

noncomputable section

namespace Cert.Spec

/-- A finite extended real. -/
def Fin' (x : EReal) : Prop := x ≠ ⊤ ∧ x ≠ ⊥

/-- A finite value less itself is zero. -/
theorem Fin'.sub_self {x : EReal} (h : Fin' x) : x - x = 0 := EReal.sub_self h.1 h.2

/-- A real is finite. -/
theorem Fin'.coe (r : ℝ) : Fin' (r : EReal) := ⟨EReal.coe_ne_top r, EReal.coe_ne_bot r⟩

/-- Zero is finite. -/
theorem Fin'.zero : Fin' 0 := Fin'.coe 0

/-- A finite value is a real. -/
theorem Fin'.exists_real {x : EReal} (h : Fin' x) : ∃ r : ℝ, x = r := ⟨x.toReal, (EReal.coe_toReal h.1 h.2).symm⟩

/-- A natural is finite. -/
theorem Fin'.natCast (n : ℕ) : Fin' (n : EReal) := Fin'.coe (n : ℝ)

/-- A sum of two finite values is finite. -/
theorem Fin'.add {x y : EReal} (hx : Fin' x) (hy : Fin' y) : Fin' (x + y) := by
  obtain ⟨a, rfl⟩ := hx.exists_real
  obtain ⟨b, rfl⟩ := hy.exists_real
  exact Fin'.coe (a + b)

/-- A product of finite values is finite. -/
theorem Fin'.mul {x y : EReal} (hx : Fin' x) (hy : Fin' y) : Fin' (x * y) := by
  obtain ⟨a, rfl⟩ := hx.exists_real
  obtain ⟨b, rfl⟩ := hy.exists_real
  exact Fin'.coe (a * b)

/-- The greater of two finite values is finite. -/
theorem Fin'.max {x y : EReal} (hx : Fin' x) (hy : Fin' y) : Fin' (max x y) := by
  rcases max_choice x y with h | h <;> rw [h] <;> assumption

/-- A sum of finitely many finite values is finite. -/
theorem Fin'.sum {ι : Type} (s : Finset ι) {f : ι → EReal} (h : ∀ i, Fin' (f i)) : Fin' (∑ i ∈ s, f i) := by
  classical
  induction s using Finset.induction_on with
  | empty => rw [Finset.sum_empty]; exact Fin'.zero
  | insert a s ha ih => rw [Finset.sum_insert ha]; exact (h a).add ih

/-- A vector read at any natural number: zero past its end. -/
def rd {n : ℕ} (v : Fin n → EReal) (q : ℕ) : EReal := if h : q < n then v ⟨q, h⟩ else 0

/-- Reading a list of values at a place inside it. -/
theorem rd_val {n : ℕ} (v : Fin n → EReal) (q : Fin n) : rd v q.val = v q := dif_pos q.isLt

/-- What is read from a list of finite values is finite. -/
theorem rd_fin {n : ℕ} {v : Fin n → EReal} (h : ∀ i, Fin' (v i)) (q : ℕ) : Fin' (rd v q) := by
  unfold rd; split_ifs
  · exact h _
  · exact Fin'.zero

/-- Pixel `(y, x)` of an image of `H` rows of 8 with a border of zeros one wide: row and column counted from the border. -/
def pixel (f : ℕ → EReal) (H y x : ℕ) : EReal := if 1 ≤ y ∧ y ≤ H ∧ 1 ≤ x ∧ x ≤ 8 then f (8 * (y - 1) + (x - 1)) else 0

/-- A pixel of an image of finite values is finite. -/
theorem pixel_fin {f : ℕ → EReal} (h : ∀ q, Fin' (f q)) (H y x : ℕ) : Fin' (pixel f H y x) := by
  unfold pixel; split_ifs
  · exact h _
  · exact Fin'.zero

/-- The sorted addresses as numbers. -/
def addr (σ : Equiv.Perm (Fin 192)) : Fin 192 → EReal := fun r => (((σ r).val : ℕ) : EReal)

/-- Feature `ch` of element `p` of address grid `m`: the grid convolved with the grid's own filter, the bias added, negatives cut. -/
def feat (w : Fin 3 → Fin 8 → Fin 3 → Fin 3 → EReal) (b : Fin 3 → Fin 8 → EReal) (a : Fin 192 → EReal) (ch : Fin 8) (m : Fin 3) (p : Fin 64) : EReal :=
  max ((∑ dy : Fin 3, ∑ dx : Fin 3, w m ch dy dx * pixel (fun q => rd a (64 * m.val + q)) 8 (p.val / 8 + dy.val) (p.val % 8 + dx.val)) + b m ch) 0

/-- Feature `ch` of the element at place `e` of the sorted order. -/
def element (w : Fin 3 → Fin 8 → Fin 3 → Fin 3 → EReal) (b : Fin 3 → Fin 8 → EReal) (a : Fin 192 → EReal) (ch : Fin 8) (e : Fin 192) : EReal :=
  feat w b a ch ⟨e.val / 64, by omega⟩ ⟨e.val % 64, by omega⟩

/-- The memory image convolved with filter `o`, the bias added, negatives cut, at pixel `p`. -/
def conv (mw : Fin 16 → Fin 8 → Fin 3 → Fin 3 → EReal) (mb : Fin 16 → EReal) (mem : Fin 8 → Fin 192 → EReal) (o : Fin 16) (p : Fin 192) : EReal :=
  max ((∑ dy : Fin 3, ∑ dx : Fin 3, ∑ ch : Fin 8, mw o ch dy dx * pixel (rd (mem ch)) 24 (p.val / 8 + dy.val) (p.val % 8 + dx.val)) + mb o) 0

/-- The mean of channel `o` over block `q` of 6 rows and 2 columns. -/
def pool (mc : Fin 16 → Fin 192 → EReal) (o q : Fin 16) : EReal :=
  (∑ a : Fin 6, ∑ b : Fin 2, mc o ⟨48 * (q.val / 4) + 8 * a.val + 2 * (q.val % 4) + b.val, by omega⟩) * ((12⁻¹ : ℝ) : EReal)

/-- Operation logit `k`: the pooled image's product with row `k` of the weights, and the bias. -/
def opLogit (pw : Fin 64 → Fin 256 → EReal) (pb : Fin 64 → EReal) (po : Fin 16 → Fin 16 → EReal) (k : Fin 64) : EReal :=
  (∑ o : Fin 16, ∑ q : Fin 16, pw k ⟨16 * o.val + q.val, by omega⟩ * po o q) + pb k

/-- The operation logits of the sample whose sorted order is `σ`. -/
def logits (w : Fin 3 → Fin 8 → Fin 3 → Fin 3 → EReal) (b : Fin 3 → Fin 8 → EReal) (mw : Fin 16 → Fin 8 → Fin 3 → Fin 3 → EReal)
    (mb : Fin 16 → EReal) (pw : Fin 64 → Fin 256 → EReal) (pb : Fin 64 → EReal) (σ : Equiv.Perm (Fin 192)) : Fin 64 → EReal :=
  opLogit pw pb (pool (conv mw mb fun ch i => element w b (addr σ) ch (σ.symm i)))

/-- The operation logits are finite where every weight is. -/
theorem logits_fin {w : Fin 3 → Fin 8 → Fin 3 → Fin 3 → EReal} {b : Fin 3 → Fin 8 → EReal} {mw : Fin 16 → Fin 8 → Fin 3 → Fin 3 → EReal}
    {mb : Fin 16 → EReal} {pw : Fin 64 → Fin 256 → EReal} {pb : Fin 64 → EReal} (hw : ∀ m c y x, Fin' (w m c y x)) (hb : ∀ m c, Fin' (b m c))
    (hmw : ∀ o c y x, Fin' (mw o c y x)) (hmb : ∀ o, Fin' (mb o)) (hpw : ∀ k j, Fin' (pw k j)) (hpb : ∀ k, Fin' (pb k))
    (σ : Equiv.Perm (Fin 192)) (k : Fin 64) : Fin' (logits w b mw mb pw pb σ k) := by
  have hel : ∀ ch e, Fin' (element w b (addr σ) ch e) := fun ch e =>
    Fin'.max (Fin'.add (Fin'.sum _ fun dy => Fin'.sum _ fun dx => (hw _ _ _ _).mul
      (pixel_fin (fun q => rd_fin (fun i => Fin'.natCast _) _) _ _ _)) (hb _ _)) Fin'.zero
  have hconv : ∀ o p, Fin' (conv mw mb (fun ch i => element w b (addr σ) ch (σ.symm i)) o p) := fun o p =>
    Fin'.max (Fin'.add (Fin'.sum _ fun dy => Fin'.sum _ fun dx => Fin'.sum _ fun ch => (hmw _ _ _ _).mul
      (pixel_fin (fun q => rd_fin (fun i => hel _ _) _) _ _ _)) (hmb _)) Fin'.zero
  exact Fin'.add (Fin'.sum _ fun o => Fin'.sum _ fun q => (hpw _ _).mul
    (Fin'.mul (Fin'.sum _ fun a => Fin'.sum _ fun c => hconv _ _) (Fin'.coe _))) (hpb _)

/-- The hop multiplier. -/
def mult (h : EReal) : EReal :=
  if h ≤ 2 then 1 else if h ≤ 4 then ((3 / 2 : ℝ) : EReal) else if h ≤ 8 then 2 else if h ≤ 16 then 3 else 5

/-- The penalty of one jump: forward hops linearly, backward hops squared, each with its multiplier. -/
def cost (x : EReal) : EReal := max x 0 * mult (max x 0) + max (-x) 0 * max (-x) 0 * mult (max (-x) 0)

/-- The jump from operation `k` to the next one. -/
def interJump (a : Fin 192 → EReal) (τ : Equiv.Perm (Fin 64)) (k : Fin 63) : EReal :=
  a ⟨(τ ⟨k.val + 1, by omega⟩).val, by omega⟩ - a ⟨128 + (τ ⟨k.val, by omega⟩).val, by omega⟩

/-- The jumps within the operations: from the first operand to the second, and from the second to the result. -/
def intraJump (a : Fin 192 → EReal) (τ : Equiv.Perm (Fin 64)) (k : Fin 128) : EReal :=
  if h : k.val < 64 then a ⟨64 + (τ ⟨k.val, h⟩).val, by omega⟩ - a ⟨(τ ⟨k.val, h⟩).val, by omega⟩
  else a ⟨128 + (τ ⟨k.val - 64, by omega⟩).val, by omega⟩ - a ⟨64 + (τ ⟨k.val - 64, by omega⟩).val, by omega⟩

/-- The first result of the sample. -/
def inter (σ : Equiv.Perm (Fin 192)) (τ : Equiv.Perm (Fin 64)) : EReal := ∑ k, cost (interJump (addr σ) τ k)

/-- The second result of the sample. -/
def intra (σ : Equiv.Perm (Fin 192)) (τ : Equiv.Perm (Fin 64)) : EReal := ∑ k, cost (intraJump (addr σ) τ k)

/-- A sum over `m * n` entries by rows. -/
theorem sum_rows {m n N : ℕ} (h : m * n = N) (f : Fin N → EReal) :
    ∑ k, f k = ∑ i : Fin m, ∑ j : Fin n, f ⟨n * i.val + j.val, by
      have := i.isLt; have := j.isLt; subst h; calc n * i.val + j.val < n * i.val + n := by omega
        _ = n * (i.val + 1) := by ring
        _ ≤ n * m := Nat.mul_le_mul_left _ (by omega)
        _ = m * n := Nat.mul_comm _ _⟩ := by
  subst h
  rw [← Equiv.sum_comp finProdFinEquiv, Fintype.sum_prod_type]
  refine Finset.sum_congr rfl fun i _ => Finset.sum_congr rfl fun j _ => congrArg f (Fin.ext ?_)
  simp [finProdFinEquiv, Nat.add_comm]

/-- A sum over 27 entries as three blocks of 3 by 3. -/
theorem sum_27 (f : Fin 27 → EReal) :
    ∑ k, f k = ∑ m : Fin 3, ∑ dy : Fin 3, ∑ dx : Fin 3, f ⟨9 * m.val + 3 * dy.val + dx.val, by omega⟩ := by
  rw [sum_rows (show 3 * 9 = 27 from rfl)]
  refine Finset.sum_congr rfl fun m _ => ?_
  rw [sum_rows (show 3 * 3 = 9 from rfl)]
  refine Finset.sum_congr rfl fun dy _ => Finset.sum_congr rfl fun dx _ => congrArg f (Fin.ext ?_)
  exact (Nat.add_assoc _ _ _).symm

/-- A sum over 72 entries as 3 by 3 blocks of 8. -/
theorem sum_72 (f : Fin 72 → EReal) :
    ∑ k, f k = ∑ dy : Fin 3, ∑ dx : Fin 3, ∑ ch : Fin 8, f ⟨8 * (3 * dy.val + dx.val) + ch.val, by omega⟩ := by
  rw [sum_rows (show 9 * 8 = 72 from rfl), sum_rows (show 3 * 3 = 9 from rfl)]

/-- A sum over the 192 pixels of an image of 24 rows of 8 that keeps those of one block of 6 rows and 2 columns. -/
theorem sum_block (f : Fin 192 → EReal) (q : Fin 16) :
    (∑ p : Fin 192, f p * (if p.val / 8 / 6 * 4 + p.val % 8 / 2 = q.val then (1 : EReal) else 0)) =
      ∑ a : Fin 6, ∑ b : Fin 2, f ⟨48 * (q.val / 4) + 8 * a.val + 2 * (q.val % 4) + b.val, by omega⟩ := by
  rw [sum_rows (show 4 * 48 = 192 from rfl), Finset.sum_eq_single (⟨q.val / 4, by omega⟩ : Fin 4)]
  · rw [sum_rows (show 6 * 8 = 48 from rfl)]
    refine Finset.sum_congr rfl fun a _ => ?_
    rw [sum_rows (show 4 * 2 = 8 from rfl), Finset.sum_eq_single (⟨q.val % 4, by omega⟩ : Fin 4)]
    · refine Finset.sum_congr rfl fun b _ => ?_
      dsimp only
      rw [if_pos (by omega), mul_one]
      exact congrArg f (Fin.ext (by show _ = _; simp only []; omega))
    · intro x _ hx
      refine Finset.sum_eq_zero fun b _ => ?_
      have : x.val ≠ q.val % 4 := fun h => hx (Fin.ext h)
      dsimp only
      rw [if_neg (by omega), mul_zero]
    · exact fun h => absurd (Finset.mem_univ _) h
  · intro y _ hy
    refine Finset.sum_eq_zero fun r _ => ?_
    have : y.val ≠ q.val / 4 := fun h => hy (Fin.ext h)
    dsimp only
    rw [if_neg (by omega), mul_zero]
  · exact fun h => absurd (Finset.mem_univ _) h

end Cert.Spec
-- ==== Proof.KSort.lean ====
module

public import proofs.«01_k».proof.Proof.Stages
public import proofs.«01_k».proof.Proof.Spec
public import Idealize.ShloMosaic.Lib.Pointwise

@[expose] public section

/-! The sorting stages over the extended reals, read at an index: at a finite row the comparison matrix, the permutation
    matrices it gives, the sorted addresses. -/

set_option maxRecDepth 16384

noncomputable section

namespace Cert.KernelIdeal.Stage

open Idealize.ShloMosaic Idealize.ShloMosaic.TcCoe Idealize.SL.Sem Cert.KernelIdeal Cert.KernelIdeal.Gen Cert.Order Cert.Spec

/-- This float word is 191. -/
theorem ofBits_191 : Ideal.ofBits .f32 0x433F0000#32 = ((191 : ℕ) : EReal) := by
  rw [show (((191 : ℕ) : EReal)) = ((191 : ℝ) : EReal) from rfl]
  simp [Ideal.ofBits, Ideal.ieee, -EReal.coe_mul]; norm_num

/-- This float word is 63. -/
theorem ofBits_63 : Ideal.ofBits .f32 0x427C0000#32 = ((63 : ℕ) : EReal) := by
  rw [show (((63 : ℕ) : EReal)) = ((63 : ℝ) : EReal) from rfl]
  simp [Ideal.ofBits, Ideal.ieee, -EReal.coe_mul]; norm_num

/-- A small natural, read back from its word, is itself. -/
theorem toInt_ofNat {n : ℕ} (h : n < 2 ^ 31) : (BitVec.ofNat 32 n).toInt = (n : ℤ) := by
  rw [BitVec.toInt_eq_toNat_of_lt (by rw [BitVec.toNat_ofNat]; omega), BitVec.toNat_ofNat]
  omega

/-- The float of a small natural number's word. -/
theorem sitofp_ofNat {n : ℕ} (h : n < 2 ^ 31) : (FloatOps.sitofp .f32 (BitVec.ofNat 32 n) : Ideal .f32) = ((n : ℕ) : EReal) := by
  show (((BitVec.ofNat 32 n).toInt : ℝ) : EReal) = _
  rw [toInt_ofNat h]
  simp

/-- Comparing the words of small naturals compares the naturals. -/
theorem slt_ofNat {a b : ℕ} (ha : a < 2 ^ 31) (hb : b < 2 ^ 31) :
    IntOp.cmpi CmpIPredicate.slt (BitVec.ofNat 32 a) (BitVec.ofNat 32 b) = BitVec.ofBool (decide (a < b)) := by
  show BitVec.ofBool (BitVec.slt _ _) = _
  rw [BitVec.slt_eq_decide, toInt_ofNat ha, toInt_ofNat hb]
  simp

/-- The three comparisons of the body, put together, select by `Before`. -/
theorem select_before {n : ℕ} (hn : n ≤ 2 ^ 31) (v : Fin n → EReal) (j i : Fin n) (x : EReal) (hx : x = v j) :
    Scalar.select (IntOp.ori (BitVec.ofBool (decide (x < v i))) (IntOp.andi (BitVec.ofBool (decide (x = v i)))
      (IntOp.cmpi CmpIPredicate.slt (BitVec.ofNat 32 ↑j) (BitVec.ofNat 32 ↑i)))) (1 : EReal) 0 =
    if Before v j i then (1 : EReal) else 0 := by
  subst hx
  rw [slt_ofNat (by omega) (by omega)]
  have e : (IntOp.ori (BitVec.ofBool (decide (v j < v i))) (IntOp.andi (BitVec.ofBool (decide (v j = v i)))
      (BitVec.ofBool (decide ((j : ℕ) < i))))) = BitVec.ofBool (decide (Before v j i)) := by
    have h : decide (Before v j i) = (decide (v j < v i) || (decide (v j = v i) && decide ((j : ℕ) < i))) := by
      rw [← Bool.decide_and, ← Bool.decide_or]; exact decide_eq_decide.mpr Iff.rfl
    rw [h]
    cases decide (v j < v i) <;> cases decide (v j = v i) <;> cases decide ((j : ℕ) < i) <;> rfl
  rw [e]
  by_cases h : Before v j i <;> simp [h, Scalar.select]

/-- The comparison matrix of a finite row. -/
theorem before192_at (v : FVec Ideal S1x192 .f32) (hv : ∀ i : Fin 192, Fin' (v (ix2 0 i))) (j i : Fin 192) :
    before192 v (ix2 j i) = if Before (fun k : Fin 192 => v (ix2 0 k)) j i then (1 : EReal) else 0 := by
  pointwise [before192, ind, col192, row192, hi, lo, rest]
  refine select_before (by norm_num) (fun k : Fin 192 => v (ix2 0 k)) j i _ ?_
  simp only [Finset.univ_unique, Finset.sum_singleton, Fin.default_eq_zero]
  simp [(hv j).sub_self]

/-- The comparison matrix of a finite row of 64. -/
theorem before64_at (v : FVec Ideal S1x64 .f32) (hv : ∀ i : Fin 64, Fin' (v (ix2 0 i))) (j i : Fin 64) :
    before64 v (ix2 j i) = if Before (fun k : Fin 64 => v (ix2 0 k)) j i then (1 : EReal) else 0 := by
  pointwise [before64, ind, col64, row64, hi, lo, rest]
  refine select_before (by norm_num) (fun k : Fin 64 => v (ix2 0 k)) j i _ ?_
  simp only [Finset.univ_unique, Finset.sum_singleton, Fin.default_eq_zero]
  simp [(hv j).sub_self]

/-- The permutation matrix of the ranks. -/
theorem ranks192_at (v : Fin 192 → EReal) {σ : Equiv.Perm (Fin 192)} (h : Sorts v σ) (c : FVec Ideal S192x192 .bf16)
    (hc : ∀ j i : Fin 192, c (ix2 j i) = if Before v j i then (1 : EReal) else 0) (j r : Fin 192) :
    ranks192 c (ix2 j r) = if (σ.symm j).val = r.val then (1 : EReal) else 0 := by
  pointwise [ranks192, ind]
  simp only [hc]
  rw [sum_after h, ofBits_191, sitofp_ofNat (by omega)]
  refine if_congr ((natCast_sub_eq (by omega)).trans ?_) rfl rfl
  omega

/-- Of 64 values: the matrix of the ranks has its one in row `j` at the rank of `j`. -/
theorem ranks64_at (v : Fin 64 → EReal) {σ : Equiv.Perm (Fin 64)} (h : Sorts v σ) (c : FVec Ideal S64x64 .bf16)
    (hc : ∀ j i : Fin 64, c (ix2 j i) = if Before v j i then (1 : EReal) else 0) (j r : Fin 64) :
    ranks64 c (ix2 j r) = if (σ.symm j).val = r.val then (1 : EReal) else 0 := by
  pointwise [ranks64, ind]
  simp only [hc]
  rw [sum_after h, ofBits_63, sitofp_ofNat (by omega)]
  refine if_congr ((natCast_sub_eq (by omega)).trans ?_) rfl rfl
  omega

/-- The sorted addresses, as floats. -/
theorem sorted_at (v : Fin 192 → EReal) {σ : Equiv.Perm (Fin 192)} (h : Sorts v σ) (c : FVec Ideal S192x192 .bf16)
    (hc : ∀ j i : Fin 192, c (ix2 j i) = if Before v j i then (1 : EReal) else 0) (r : Fin 192) :
    sorted c (ix2 0 r) = (((σ r).val : ℕ) : EReal) := by
  pointwise [sorted]
  rw [← sum_mul_ranks (σ := σ) (fun j => ((j.val : ℕ) : EReal)) r]
  refine Finset.sum_congr rfl fun j _ => ?_
  rw [ranks192_at v h c hc, sitofp_ofNat (by omega)]

/-- The memory: address `i` holds the features of the element whose address is `i`. -/
theorem memory_at (v : Fin 192 → EReal) {σ : Equiv.Perm (Fin 192)} (h : Sorts v σ) (c : FVec Ideal S192x192 .bf16)
    (hc : ∀ j i : Fin 192, c (ix2 j i) = if Before v j i then (1 : EReal) else 0) (w1 : FVec Ideal S24x27 .f32)
    (cb : FVec Ideal S24x1 .f32) (sf : FVec Ideal S1x192 .f32) (ch : Fin 8) (i : Fin 192) :
    memory w1 cb c sf (ix2 ch i) = feats w1 cb sf (ix2 ch (σ.symm i)) := by
  pointwise [memory, ind, row192, rankRow]
  rw [← sum_mul_place (σ := σ) (fun k => feats w1 cb sf (ix2 ch k)) i]
  refine Finset.sum_congr rfl fun k _ => ?_
  simp only [hc]
  rw [sum_before h, sitofp_ofNat (by omega)]
  refine congrArg _ (if_congr Nat.cast_inj rfl rfl)

/-- A segment of the sorted addresses in the operations' order. -/
theorem s0_at (v : Fin 64 → EReal) {τ : Equiv.Perm (Fin 64)} (h : Sorts v τ) (sf : FVec Ideal S1x192 .f32) (ol : FVec Ideal S1x64 .f32)
    (hc : ∀ j i : Fin 64, before64 ol (ix2 j i) = if Before v j i then (1 : EReal) else 0) (r : Fin 64) :
    s0 sf ol (ix1 r) = sf (ix2 0 ⟨(τ r).val, by omega⟩) := by
  pointwise [s0]
  rw [← sum_mul_ranks (σ := τ) (fun j => sf (ix2 0 ⟨j.val, by omega⟩)) r]
  refine Finset.sum_congr rfl fun j _ => ?_
  rw [ranks64_at v h _ hc]

/-- The second source's address of the `r`-th op in the order. -/
theorem s1_at (v : Fin 64 → EReal) {τ : Equiv.Perm (Fin 64)} (h : Sorts v τ) (sf : FVec Ideal S1x192 .f32) (ol : FVec Ideal S1x64 .f32)
    (hc : ∀ j i : Fin 64, before64 ol (ix2 j i) = if Before v j i then (1 : EReal) else 0) (r : Fin 64) :
    s1 sf ol (ix1 r) = sf (ix2 0 ⟨64 + (τ r).val, by omega⟩) := by
  pointwise [s1]
  rw [← sum_mul_ranks (σ := τ) (fun j => sf (ix2 0 ⟨64 + j.val, by omega⟩)) r]
  refine Finset.sum_congr rfl fun j _ => ?_
  rw [ranks64_at v h _ hc]

/-- The destination's address of the `r`-th op in the order. -/
theorem d_at (v : Fin 64 → EReal) {τ : Equiv.Perm (Fin 64)} (h : Sorts v τ) (sf : FVec Ideal S1x192 .f32) (ol : FVec Ideal S1x64 .f32)
    (hc : ∀ j i : Fin 64, before64 ol (ix2 j i) = if Before v j i then (1 : EReal) else 0) (r : Fin 64) :
    d sf ol (ix1 r) = sf (ix2 0 ⟨128 + (τ r).val, by omega⟩) := by
  pointwise [d]
  rw [← sum_mul_ranks (σ := τ) (fun j => sf (ix2 0 ⟨128 + j.val, by omega⟩)) r]
  refine Finset.sum_congr rfl fun j _ => ?_
  rw [ranks64_at v h _ hc]

end Cert.KernelIdeal.Stage
-- ==== Proof.KFeats.lean ====
module

public import proofs.«01_k».proof.Proof.KSort

@[expose] public section

set_option maxRecDepth 16384

noncomputable section

namespace Cert.KernelIdeal.Stage

open Idealize.ShloMosaic Idealize.ShloMosaic.TcCoe Idealize.SL.Sem Cert.KernelIdeal Cert.KernelIdeal.Gen Cert.Order Cert.Spec

/-- `xi` holds the column of each cell of an 8x8 grid laid out flat. -/
theorem xi_at (p : Fin 64) : xi (ix2 0 p) = BitVec.ofNat 32 (p.val % 8) := by
  revert p; decide +kernel

/-- `xi2` holds the column of each cell of the 24x8 image laid out flat. -/
theorem xi2_at (p : Fin 192) : xi2 (ix2 0 p) = BitVec.ofNat 32 (p.val % 8) := by
  revert p; decide +kernel

/-- The zero word is the integer 0. -/
theorem toInt_zero : (0#32).toInt = 0 := rfl

/-- A selection by a comparison of small numbers' words. -/
theorem select_eq {a b : ℕ} (ha : a < 2 ^ 31) (hb : b < 2 ^ 31) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = BitVec.ofBool (decide (a = b)) := by
    show BitVec.ofBool (_ == _) = _
    congr 1
    rw [Bool.eq_iff_iff]
    simp only [beq_iff_eq, decide_eq_true_eq]
    refine ⟨fun h => ?_, fun h => by rw [h]⟩
    have := congrArg BitVec.toNat h
    rw [BitVec.toNat_ofNat, BitVec.toNat_ofNat] at this
    omega
  rw [e]
  by_cases h : a = b <;> simp [h, Scalar.select]

/-- Padding by sixteen on each side, as the body's two joinings read. -/
theorem pad_read {j n : ℕ} (w : ℕ) (x : j < w → ¬ j < 16 → EReal) (v : Fin n → EReal) (q : ℕ) (hw : 16 ≤ w)
    (hq : 16 ≤ j → j < w → q < n) (hx : ∀ (hj : j < w) (h : ¬ j < 16), x hj h = v ⟨q, hq (by omega) hj⟩) (z : EReal) (hz : z = 0) :
    (if hj : j < w then if h : j < 16 then z else x hj h else z) = if 16 ≤ j ∧ j < w then rd v q else 0 := by
  subst hz
  simp only [rd]
  by_cases h1 : j < w
  · by_cases h2 : j < 16
    · rw [dif_pos h1, dif_pos h2, if_neg (by omega)]
    · rw [dif_pos h1, dif_neg h2, if_pos (by omega), dif_pos (hq (by omega) h1), hx h1 h2]
  · rw [dif_neg h1, if_neg (by omega)]

/-- The first grid of addresses, laid out flat with 16 zeros on either side. -/
theorem addrPad0_at (sf : FVec Ideal S1x192 .f32) (j : Fin 96) :
    addrPad0 sf (ix2 0 j) = if 16 ≤ j.val ∧ j.val < 80 then rd (fun i : Fin 192 => sf (ix2 0 i)) (j.val - 16) else 0 := by
  pointwise [addrPad0]
  exact pad_read 80 _ (fun i : Fin 192 => sf (ix2 0 i)) (j.val - 16) (by omega) (by omega) (fun _ _ => rfl) _ (by simp)

/-- The second grid of addresses, laid out flat with 16 zeros on either side. -/
theorem addrPad1_at (sf : FVec Ideal S1x192 .f32) (j : Fin 96) :
    addrPad1 sf (ix2 0 j) = if 16 ≤ j.val ∧ j.val < 80 then rd (fun i : Fin 192 => sf (ix2 0 i)) (64 + (j.val - 16)) else 0 := by
  pointwise [addrPad1]
  exact pad_read 80 _ (fun i : Fin 192 => sf (ix2 0 i)) (64 + (j.val - 16)) (by omega) (by omega) (fun _ _ => rfl) _ (by simp)

/-- The third grid of addresses, laid out flat with 16 zeros on either side. -/
theorem addrPad2_at (sf : FVec Ideal S1x192 .f32) (j : Fin 96) :
    addrPad2 sf (ix2 0 j) = if 16 ≤ j.val ∧ j.val < 80 then rd (fun i : Fin 192 => sf (ix2 0 i)) (128 + (j.val - 16)) else 0 := by
  pointwise [addrPad2]
  exact pad_read 80 _ (fun i : Fin 192 => sf (ix2 0 i)) (128 + (j.val - 16)) (by omega) (by omega) (fun _ _ => rfl) _ (by simp)

/-- A row of the nine shifted images of each grid: the grid shifted, with a border of zeros. -/
theorem patches_at (sf : FVec Ideal S1x192 .f32) (m dy dx : Fin 3) (p : Fin 64) :
    patches sf (ix2 ⟨9 * m.val + 3 * dy.val + dx.val, by omega⟩ p) =
      pixel (fun q => rd (fun i : Fin 192 => sf (ix2 0 i)) (64 * m.val + q)) 8 (p.val / 8 + dy.val) (p.val % 8 + dx.val) := by
  have hp := p.isLt
  fin_cases m <;> fin_cases dy <;> fin_cases dx <;> dsimp only [Nat.reduceMul, Nat.reduceAdd] <;>
    pointwise [patches, maskLeft, maskRight, xi_at] <;>
    simp only [addrPad0_at, addrPad1_at, addrPad2_at, pixel, select_eq (show p.val % 8 < 2 ^ 31 by omega) (show 0 < 2 ^ 31 by omega),
      select_eq (show p.val % 8 < 2 ^ 31 by omega) (show 7 < 2 ^ 31 by omega)] <;>
    split_ifs <;> first | rfl | (exfalso; omega) | (congr 1; omega)

/-- A memory image with sixteen zeros on each side. -/
theorem memPad_at (mem : FVec Ideal S8x192 .f32) (ch : Fin 8) (j : Fin 224) :
    memPad mem (ix2 ch j) = if 16 ≤ j.val ∧ j.val < 208 then rd (fun i : Fin 192 => mem (ix2 ch i)) (j.val - 16) else 0 := by
  pointwise [memPad]
  exact pad_read 208 _ (fun i : Fin 192 => mem (ix2 ch i)) (j.val - 16) (by omega) (by omega) (fun _ _ => rfl) _ (by simp)

set_option maxHeartbeats 1600000 in
/-- A row of the nine shifted images of the memory. -/
theorem memPatches_at (mem : FVec Ideal S8x192 .f32) (dy dx : Fin 3) (ch : Fin 8) (p : Fin 192) :
    memPatches mem (ix2 ⟨8 * (3 * dy.val + dx.val) + ch.val, by omega⟩ p) =
      pixel (rd (fun i : Fin 192 => mem (ix2 ch i))) 24 (p.val / 8 + dy.val) (p.val % 8 + dx.val) := by
  have hp := p.isLt
  fin_cases dy <;> fin_cases dx <;> dsimp only [Nat.reduceMul, Nat.reduceAdd] <;>
    pointwise [memPatches, maskLeft8, maskRight8, xi2_at]
  all_goals
    (repeat (first | rw [dif_pos (by omega)] | rw [dif_neg (by omega)]))
    simp only [memPad_at, pixel, select_eq (show p.val % 8 < 2 ^ 31 by omega) (show 0 < 2 ^ 31 by omega),
      select_eq (show p.val % 8 < 2 ^ 31 by omega) (show 7 < 2 ^ 31 by omega), Nat.sub_sub, Nat.reduceAdd, Nat.add_sub_cancel_left, Fin.eta]
    split_ifs <;> first | rfl | (exfalso; omega) | (congr 1; omega)

/-- The 24 feature rows: the weights times the patches, plus the bias, cut off below at zero. -/
theorem feats24_at (w1 : FVec Ideal S24x27 .f32) (cb : FVec Ideal S24x1 .f32) (sf : FVec Ideal S1x192 .f32) (o : Fin 24) (p : Fin 64) :
    feats24 w1 cb sf (ix2 o p) = max ((∑ k : Fin 27, w1 (ix2 o k) * patches sf (ix2 k p)) + cb (ix2 o 0)) 0 := by
  pointwise! [feats24]

/-- Feature `ch` of cell `p` of matrix `m` is row `8 m + ch` of the 24 at that cell. -/
theorem feats_at (w1 : FVec Ideal S24x27 .f32) (cb : FVec Ideal S24x1 .f32) (sf : FVec Ideal S1x192 .f32) (ch : Fin 8) (m : Fin 3) (p : Fin 64) :
    feats w1 cb sf (ix2 ch ⟨64 * m.val + p.val, by omega⟩) = feats24 w1 cb sf (ix2 ⟨8 * m.val + ch.val, by omega⟩ p) := by
  fin_cases m <;> dsimp only [Nat.reduceMul] <;> pointwise [feats]
  rw [dif_neg (by omega), dif_neg (by omega)]
  simp only [Nat.sub_sub, Nat.reduceAdd, Nat.add_sub_cancel_left, Fin.eta]

/-- The second convolution: the weights times the patches, plus the bias, cut off below at zero. -/
theorem conv2_at (w2 : FVec Ideal S16x72 .f32) (mb : FVec Ideal S16x1 .f32) (mem : FVec Ideal S8x192 .f32) (o : Fin 16) (p : Fin 192) :
    conv2 w2 mb mem (ix2 o p) = max ((∑ k : Fin 72, w2 (ix2 o k) * memPatches mem (ix2 k p)) + mb (ix2 o 0)) 0 := by
  pointwise! [conv2]

/-- The pooled image: the sum of each window, by a twelfth. -/
theorem pooled_at (pool : FVec Ideal S192x16 .f32) (mc : FVec Ideal S16x192 .f32) (o q : Fin 16) :
    pooled pool mc (ix2 o q) = (∑ p : Fin 192, mc (ix2 o p) * pool (ix2 p q)) * ((12⁻¹ : ℝ) : EReal) := by
  pointwise [pooled]
  rfl

/-- An op logit: the sum of its weights times the pooled image, plus its bias. -/
theorem opLogits_at (pwt : FVec Ideal S64x16x16 .f32) (pb : FVec Ideal S1x64 .f32) (q : FVec Ideal S16x16 .f32) (k : Fin 64) :
    opLogits pwt pb q (ix2 0 k) = (∑ a : Fin 16, ∑ b : Fin 16, pwt (ix3 k a b) * q (ix2 a b)) + pb (ix2 0 k) := by
  pointwise! [opLogits, hi]

end Cert.KernelIdeal.Stage
-- ==== Proof.KSample.lean ====
module

public import proofs.«01_k».proof.Proof.KFeats

@[expose] public section

/-! The body's work on one sample equals the plain mathematics of `Proof.Spec`, for the blocks the host prepares from the weights. -/

set_option maxRecDepth 16384

noncomputable section

namespace Cert.KernelIdeal.Stage

open Idealize.ShloMosaic Idealize.ShloMosaic.TcCoe Idealize.SL.Sem Cert.KernelIdeal Cert.KernelIdeal.Gen Cert.Order Cert.Spec

/-- The seven blocks hold the weights as the host lays them out: the address filters block-diagonally, the memory filters
    with the channel last, the rows of the projection as matrices, the 0/1 matrix of the pooling blocks. -/
structure Blocks (x1 : FVec Ideal S24x27 .f32) (x2 : FVec Ideal S24x1 .f32) (x3 : FVec Ideal S16x72 .f32) (x4 : FVec Ideal S16x1 .f32)
    (x5 : FVec Ideal S64x16x16 .f32) (x6 : FVec Ideal S1x64 .f32) (x7 : FVec Ideal S192x16 .f32)
    (w : Fin 3 → Fin 8 → Fin 3 → Fin 3 → EReal) (b : Fin 3 → Fin 8 → EReal) (mw : Fin 16 → Fin 8 → Fin 3 → Fin 3 → EReal)
    (mb : Fin 16 → EReal) (pw : Fin 64 → Fin 256 → EReal) (pb : Fin 64 → EReal) : Prop where
  h1 : ∀ (m : Fin 3) (ch : Fin 8) (m' dy dx : Fin 3),
    x1 (ix2 ⟨8 * m.val + ch.val, by omega⟩ ⟨9 * m'.val + 3 * dy.val + dx.val, by omega⟩) = if m' = m then w m ch dy dx else 0
  h2 : ∀ (m : Fin 3) (ch : Fin 8), x2 (ix2 ⟨8 * m.val + ch.val, by omega⟩ 0) = b m ch
  h3 : ∀ (o : Fin 16) (dy dx : Fin 3) (ch : Fin 8), x3 (ix2 o ⟨8 * (3 * dy.val + dx.val) + ch.val, by omega⟩) = mw o ch dy dx
  h4 : ∀ o : Fin 16, x4 (ix2 o 0) = mb o
  h5 : ∀ (k : Fin 64) (o q : Fin 16), x5 (ix3 k o q) = pw k ⟨16 * o.val + q.val, by omega⟩
  h6 : ∀ k : Fin 64, x6 (ix2 0 k) = pb k
  h7 : ∀ (p : Fin 192) (q : Fin 16), x7 (ix2 p q) = if p.val / 8 / 6 * 4 + p.val % 8 / 2 = q.val then (1 : EReal) else 0

variable {x1 : FVec Ideal S24x27 .f32} {x2 : FVec Ideal S24x1 .f32} {x3 : FVec Ideal S16x72 .f32} {x4 : FVec Ideal S16x1 .f32}
    {x5 : FVec Ideal S64x16x16 .f32} {x6 : FVec Ideal S1x64 .f32} {x7 : FVec Ideal S192x16 .f32}
    {w : Fin 3 → Fin 8 → Fin 3 → Fin 3 → EReal} {b : Fin 3 → Fin 8 → EReal} {mw : Fin 16 → Fin 8 → Fin 3 → Fin 3 → EReal}
    {mb : Fin 16 → EReal} {pw : Fin 64 → Fin 256 → EReal} {pb : Fin 64 → EReal}

/-- The body's feature rows are the features of the three grids. -/
theorem feats24_spec (B : Blocks x1 x2 x3 x4 x5 x6 x7 w b mw mb pw pb) (sf : FVec Ideal S1x192 .f32) (ch : Fin 8) (m : Fin 3) (p : Fin 64) :
    feats24 x1 x2 sf (ix2 ⟨8 * m.val + ch.val, by omega⟩ p) = feat w b (fun i => sf (ix2 0 i)) ch m p := by
  rw [feats24_at, sum_27, Finset.sum_eq_single m]
  · rw [B.h2]
    simp only [B.h1, patches_at, if_true]
    rfl
  · intro m' _ hm
    refine Finset.sum_eq_zero fun dy _ => Finset.sum_eq_zero fun dx _ => ?_
    rw [B.h1, if_neg hm, zero_mul]
  · exact fun h => absurd (Finset.mem_univ _) h

/-- The body's features are those of the elements in sorted order. -/
theorem feats_spec (B : Blocks x1 x2 x3 x4 x5 x6 x7 w b mw mb pw pb) (sf : FVec Ideal S1x192 .f32) (ch : Fin 8) (e : Fin 192) :
    feats x1 x2 sf (ix2 ch e) = element w b (fun i => sf (ix2 0 i)) ch e := by
  have h := feats_at x1 x2 sf ch ⟨e.val / 64, by omega⟩ ⟨e.val % 64, by omega⟩
  rw [feats24_spec B] at h
  rw [element, ← h]
  exact congrArg _ (congrArg _ (Fin.ext (Nat.div_add_mod _ _).symm))

/-- The body's second convolution. -/
theorem conv2_spec (B : Blocks x1 x2 x3 x4 x5 x6 x7 w b mw mb pw pb) (mem : FVec Ideal S8x192 .f32) (o : Fin 16) (p : Fin 192) :
    conv2 x3 x4 mem (ix2 o p) = conv mw mb (fun ch i => mem (ix2 ch i)) o p := by
  rw [conv2_at, sum_72, B.h4]
  simp only [B.h3, memPatches_at]
  rfl

/-- The body's pooling. -/
theorem pooled_spec (B : Blocks x1 x2 x3 x4 x5 x6 x7 w b mw mb pw pb) (mc : FVec Ideal S16x192 .f32) (o q : Fin 16) :
    pooled x7 mc (ix2 o q) = pool (fun o p => mc (ix2 o p)) o q := by
  rw [pooled_at]
  unfold Spec.pool
  simp only [B.h7]
  rw [sum_block fun p => mc (ix2 o p)]

/-- The body's operation logits. -/
theorem opLogits_spec (B : Blocks x1 x2 x3 x4 x5 x6 x7 w b mw mb pw pb) (po : FVec Ideal S16x16 .f32) (k : Fin 64) :
    opLogits x5 x6 po (ix2 0 k) = opLogit pw pb (fun o q => po (ix2 o q)) k := by
  rw [opLogits_at, opLogit, B.h6]
  simp only [B.h5]

variable {v : Fin 192 → EReal} {σ : Equiv.Perm (Fin 192)}

/-- The operation logits of a sample, from its comparison matrix. -/
theorem olOf_spec (B : Blocks x1 x2 x3 x4 x5 x6 x7 w b mw mb pw pb) (h : Sorts v σ) (c : FVec Ideal S192x192 .bf16)
    (hc : ∀ j i : Fin 192, c (ix2 j i) = if Before v j i then (1 : EReal) else 0) (k : Fin 64) :
    olOf c x1 x2 x3 x4 x5 x6 x7 (ix2 0 k) = logits w b mw mb pw pb σ k := by
  rw [olOf, opLogits_spec B]
  simp only [pooled_spec B, conv2_spec B, memory_at v h c hc, feats_spec B, sorted_at v h c hc]
  rfl

end Cert.KernelIdeal.Stage
-- ==== Proof.Consts.lean ====
module

public import proofs.«01_k».proof.Proof.Spec

@[expose] public section

/-! The float constants of the penalties as extended reals. -/

noncomputable section

namespace Cert.Spec

open Idealize.ShloMosaic

/-- This float word is 2. -/
theorem bits_two : Ideal.ofBits .f32 0x40000000#32 = 2 := by
  rw [show (2 : EReal) = ((2 : ℝ) : EReal) from rfl]
  simp [Ideal.ofBits, Ideal.ieee, -EReal.coe_mul]; norm_num

/-- This float word is 4. -/
theorem bits_four : Ideal.ofBits .f32 0x40800000#32 = 4 := by
  rw [show (4 : EReal) = ((4 : ℝ) : EReal) from rfl]
  simp [Ideal.ofBits, Ideal.ieee, -EReal.coe_mul]; norm_num

/-- This float word is 8. -/
theorem bits_eight : Ideal.ofBits .f32 0x41000000#32 = 8 := by
  rw [show (8 : EReal) = ((8 : ℝ) : EReal) from rfl]
  simp [Ideal.ofBits, Ideal.ieee, -EReal.coe_mul]; norm_num

/-- This float word is 16. -/
theorem bits_sixteen : Ideal.ofBits .f32 0x41800000#32 = 16 := by
  rw [show (16 : EReal) = ((16 : ℝ) : EReal) from rfl]
  simp [Ideal.ofBits, Ideal.ieee, -EReal.coe_mul]; norm_num

/-- This float word is 3. -/
theorem bits_three : Ideal.ofBits .f32 0x40400000#32 = 3 := by
  rw [show (3 : EReal) = ((3 : ℝ) : EReal) from rfl]
  simp [Ideal.ofBits, Ideal.ieee, -EReal.coe_mul]; norm_num

/-- This float word is 5. -/
theorem bits_five : Ideal.ofBits .f32 0x40A00000#32 = 5 := by
  rw [show (5 : EReal) = ((5 : ℝ) : EReal) from rfl]
  simp [Ideal.ofBits, Ideal.ieee, -EReal.coe_mul]; norm_num

/-- This float word is 3/2. -/
theorem bits_three_halves : Ideal.ofBits .f32 0x3FC00000#32 = ((3 / 2 : ℝ) : EReal) := by
  simp [Ideal.ofBits, Ideal.ieee, -EReal.coe_mul]; norm_num

/-- This float word is 12. -/
theorem bits_twelve : Ideal.ofBits .f32 0x41400000#32 = ((12 : ℝ) : EReal) := by
  simp [Ideal.ofBits, Ideal.ieee, -EReal.coe_mul]; norm_num

/-- The five-way choice of the multiplier as both programs spell it. -/
theorem mult_bits (h : EReal) :
    (if h ≤ Ideal.ofBits .f32 0x40000000#32 then 1 else if h ≤ Ideal.ofBits .f32 0x40800000#32 then Ideal.ofBits .f32 0x3FC00000#32
      else if h ≤ Ideal.ofBits .f32 0x41000000#32 then Ideal.ofBits .f32 0x40000000#32
      else if h ≤ Ideal.ofBits .f32 0x41800000#32 then Ideal.ofBits .f32 0x40400000#32 else Ideal.ofBits .f32 0x40A00000#32) = mult h := by
  rw [bits_two, bits_four, bits_eight, bits_sixteen, bits_three, bits_five, bits_three_halves]
  rfl

end Cert.Spec
-- ==== Proof.KPen.lean ====
module

public import proofs.«01_k».proof.Proof.KSample
public import proofs.«01_k».proof.Proof.Consts

@[expose] public section

/-! The penalty stages over the extended reals: the sum of the jumps' costs, in every lane; and what the body stores for one sample. -/

set_option maxRecDepth 16384

noncomputable section

namespace Cert.KernelIdeal.Stage

open Idealize.ShloMosaic Idealize.ShloMosaic.TcCoe Idealize.SL.Sem Cert.KernelIdeal Cert.KernelIdeal.Gen Cert.Order Cert.Spec

/-- The penalty of 63 jumps is the sum of their costs, in every lane. -/
theorem penalty63_at (x : FVec Ideal S63 .f32) (l : Fin 128) :
    penalty63 x (ix3 0 0 l) = ∑ k : Fin 63, cost (x (ix1 k)) := by
  pointwise [penalty63, staged63]
  simp only [mult_bits, zero_sub, cost]

/-- The penalty of 128 jumps is the sum of their costs, in every lane. -/
theorem penalty128_at (x : FVec Ideal S128 .f32) (l : Fin 128) :
    penalty128 x (ix3 0 0 l) = ∑ k : Fin 128, cost (x (ix1 k)) := by
  pointwise [penalty128, staged128]
  simp only [mult_bits, zero_sub, cost]

variable {v : Fin 64 → EReal} {τ : Equiv.Perm (Fin 64)} {σ : Equiv.Perm (Fin 192)}

/-- What is stored to the first output, at every lane, when `τ` sorts the operation logits. -/
theorem interOut_at (h : Sorts v τ) (sf : FVec Ideal S1x192 .f32) (hsf : ∀ r, sf (ix2 0 r) = addr σ r) (ol : FVec Ideal S1x64 .f32)
    (hc : ∀ j i : Fin 64, before64 ol (ix2 j i) = if Before v j i then (1 : EReal) else 0) (l : Fin 128) :
    interOut sf ol (ix3 0 0 l) = inter σ τ := by
  rw [interOut, penalty63_at]
  refine Finset.sum_congr rfl fun k _ => congrArg cost ?_
  pointwise
  rw [s0_at v h sf ol hc, d_at v h sf ol hc, hsf, hsf]
  simp only [interJump, Nat.add_comm 1]

/-- What is stored to the second output, at every lane, when `τ` sorts the operation logits. -/
theorem intraOut_at (h : Sorts v τ) (sf : FVec Ideal S1x192 .f32) (hsf : ∀ r, sf (ix2 0 r) = addr σ r) (ol : FVec Ideal S1x64 .f32)
    (hc : ∀ j i : Fin 64, before64 ol (ix2 j i) = if Before v j i then (1 : EReal) else 0) (l : Fin 128) :
    intraOut sf ol (ix3 0 0 l) = intra σ τ := by
  rw [intraOut, penalty128_at]
  refine Finset.sum_congr rfl fun k _ => congrArg cost ?_
  pointwise
  simp only [s0_at v h sf ol hc, s1_at v h sf ol hc, d_at v h sf ol hc, hsf]
  rfl

/-- The operation logits' comparison matrix, when they are finite. -/
theorem before64_spec {L : Fin 64 → EReal} (hL : ∀ k, Fin' (L k)) (ol : FVec Ideal S1x64 .f32) (hol : ∀ k, ol (ix2 0 k) = L k) (j i : Fin 64) :
    before64 ol (ix2 j i) = if Before L j i then (1 : EReal) else 0 := by
  rw [before64_at ol (fun k => by rw [hol]; exact hL k)]
  simp only [hol]

end Cert.KernelIdeal.Stage
-- ==== Proof.KHost.lean ====
module

public import proofs.«01_k».proof.Proof.KPen
public import Idealize.ShloMosaic.Lib.StableHlo.Run
public import Idealize.ShloMosaic.Lib.Routing.OpsPair
public import Idealize.ShloMosaic.Lib.Routing.OpsSet

@[expose] public section

/-! The arrays the host prepares before the kernel is entered, read at an index. -/

set_option maxRecDepth 16384

noncomputable section

namespace Cert.KernelIdeal.Stage

open Idealize.ShloMosaic Idealize.ShloMosaic.TcCoe Idealize.SL.Sem Cert.KernelIdeal Cert.KernelIdeal.Gen Cert.Order Cert.Spec

/-- A block of 8 by 9 set into a matrix of 24 by 27 at a start that fits: the block inside, the matrix outside. -/
theorem set_block (x0 : S24x27.Idx → EReal) (idx : IVec S2 32) (upd : S8x9.Idx → EReal) (a b : ℕ) (ha : a + 8 ≤ 24) (hb : b + 9 ≤ 27)
    (h0 : idx (ix1 0) = BitVec.ofNat 32 a) (h1 : idx (ix1 1) = BitVec.ofNat 32 b) (r : Fin 24) (c : Fin 27) :
    Host.scatter scatter_S24x27_S2_S8x9_01_n_01_0 (fun _ y => y) x0 idx upd (ix2 r c) =
      if h : (a ≤ r.val ∧ r.val < a + 8) ∧ (b ≤ c.val ∧ c.val < b + 9) then upd (ix2 ⟨r.val - a, by omega⟩ ⟨c.val - b, by omega⟩) else x0 (ix2 r c) := by
  have key : ∀ (i : Fin 8) (j : Fin 9), scatter_S24x27_S2_S8x9_01_n_01_0.resultIdx? (ix2 i j) idx = some (ix2 r c) ↔ a + i.val = r.val ∧ b + j.val = c.val := by
    intro i j
    rw [Routing.resultIdx?_eq_some, Fin.forall_fin_two]
    have s0 : scatter_S24x27_S2_S8x9_01_n_01_0.start (ix2 i j) idx 0 = (idx (ix1 0)).toInt := by
      refine congrArg (fun q => (idx q).toInt) ?_
      funext q; fin_cases q; rfl
    have s1 : scatter_S24x27_S2_S8x9_01_n_01_0.start (ix2 i j) idx 1 = (idx (ix1 1)).toInt := by
      refine congrArg (fun q => (idx q).toInt) ?_
      funext q; fin_cases q; rfl
    have w0 : scatter_S24x27_S2_S8x9_01_n_01_0.window (ix2 i j) 0 = i.val := rfl
    have w1 : scatter_S24x27_S2_S8x9_01_n_01_0.window (ix2 i j) 1 = j.val := rfl
    have r0 : ((ix2 r c : S24x27.Idx) 0).val = r.val := rfl
    have r1 : ((ix2 r c : S24x27.Idx) 1).val = c.val := rfl
    rw [s0, s1, w0, w1, h0, h1, toInt_ofNat (by omega), toInt_ofNat (by omega)]
    omega
  split_ifs with h
  · refine Routing.scatter_set_hit _ _ _ _ _ _ (fun k hk => ?_) (ix2 ⟨r.val - a, by omega⟩ ⟨c.val - b, by omega⟩) ((key _ _).2 ⟨?_, ?_⟩)
    · idx_vars k
      have := (key _ _).1 hk
      have e0 : k0 = ⟨r.val - a, by omega⟩ := Fin.ext (by show k0.val = r.val - a; omega)
      have e1 : k1 = ⟨c.val - b, by omega⟩ := Fin.ext (by show k1.val = c.val - b; omega)
      exact congrArg upd (congrArg₂ ix2 e0 e1)
    · show a + (r.val - a) = _; omega
    · show b + (c.val - b) = _; omega
  · refine Routing.scatter_set_miss _ _ _ _ _ fun k hk => h ?_
    idx_vars k
    have := (key _ _).1 hk
    omega

/-- The host's 0/1 matrix of the pooling blocks, as words. -/
theorem lit0_eq : ∀ n : Fin 3072, lit0 n = if n.val / 16 / 8 / 6 * 4 + n.val / 16 % 8 / 2 = n.val % 16 then 0x3F800000#32 else 0x00000000#32 := by
  decide +kernel

variable (m : (ℓ : Loc nD τ sig) → Buf (Elt Ideal) ℓ) (c : Dev nD)

/-- The program's argument 0. -/
abbrev a0 : FVec Ideal S32x192 .f32 := m ((c : Thread nD τ).loc main_arg0)

/-- The program's argument 1. -/
abbrev a1 : FVec Ideal S3x8x1x3x3 .f32 := m ((c : Thread nD τ).loc main_arg1)

/-- The program's argument 2. -/
abbrev a2 : FVec Ideal S3x8 .f32 := m ((c : Thread nD τ).loc main_arg2)

/-- The program's argument 3. -/
abbrev a3 : FVec Ideal S16x8x3x3 .f32 := m ((c : Thread nD τ).loc main_arg3)

/-- The program's argument 4. -/
abbrev a4 : FVec Ideal S16 .f32 := m ((c : Thread nD τ).loc main_arg4)

/-- The program's argument 5. -/
abbrev a5 : FVec Ideal S64x256 .f32 := m ((c : Thread nD τ).loc main_arg5)

/-- The program's argument 6. -/
abbrev a6 : FVec Ideal S64 .f32 := m ((c : Thread nD τ).loc main_arg6)

/-- One grid's filters as a matrix of 8 by 9: a row per filter, a column per tap. -/
def filt (w : FVec Ideal S3x8x1x3x3 .f32) (off : Fin 4 → ℕ) (h : S3x8x3x3.Slices off S1x8x3x3) : FVec Ideal S8x9 .f32 :=
  shapeCast S8x9 (shapeCast S8x3x3 (extractStridedSlice S1x8x3x3 off (shapeCast S3x8x3x3 w shapeCasts_S3x8x1x3x3_S3x8x3x3) h) shapeCasts_S1x8x3x3_S8x3x3) shapeCasts_S8x3x3_S8x9

/-- A filter matrix at a row and a tap. -/
theorem filt_at (w : FVec Ideal S3x8x1x3x3 .f32) (m : Fin 3) (h) (r : Fin 8) (t : Fin 9) (ch : Fin 8) (dy dx : Fin 3)
    (hr : r = ch) (ht : t.val = 3 * dy.val + dx.val) : filt w ![m.val, 0, 0, 0] h (ix2 r t) = w (ix5 m ch 0 dy dx) := by
  subst hr
  unfold filt
  rw [shapeCast_apply _ _ _ (ix3 r dy dx), shapeCast_apply _ _ _ (ix4 0 r dy dx), extractStridedSlice_apply _ _ _ _ (ix4 m r dy dx),
    shapeCast_apply _ _ _ (ix5 m r 0 dy dx)]
  · rw [Shape.rowMajor_val_four, Shape.rowMajor_val_five]
    show (((m.val * 8 + r.val) * 1 + 0) * 3 + dy.val) * 3 + dx.val = ((m.val * 8 + r.val) * 3 + dy.val) * 3 + dx.val
    omega
  · intro a
    fin_cases a
    · show m.val = m.val + 0; omega
    · show r.val = 0 + r.val; omega
    · show dy.val = 0 + dy.val; omega
    · show dx.val = 0 + dx.val; omega
  · rw [Shape.rowMajor_val_four, Shape.rowMajor_val_three]
    show ((0 * 8 + r.val) * 3 + dy.val) * 3 + dx.val = (r.val * 3 + dy.val) * 3 + dx.val
    omega
  · rw [Shape.rowMajor_val_three, Shape.rowMajor_val_two]
    show (r.val * 3 + dy.val) * 3 + dx.val = r.val * 9 + t.val
    omega

/-- Two words as a vector of two. -/
def two (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The first entry of a pair of words. -/
theorem two_0 (a b : BitVec 32) : two a b (ix1 0) = a := by
  unfold two; pointwise

/-- The second entry of a pair of words. -/
theorem two_1 (a b : BitVec 32) : two a b (ix1 1) = b := by
  unfold two; pointwise

/-- The pooling matrix, as its table of words. -/
theorem V_cst : V m c main_call0_cst = fun i => (FloatOps.ofBits .f32 (lit0 (S192x16.rowMajor i)) : Ideal .f32) := by
  show StableHlo.after hostOps0 _ (Proc.devRef .tc main_call0_cst) = _
  after_results
  rfl

/-- The pooling matrix the kernel is given. -/
theorem V_pool (p : Fin 192) (q : Fin 16) :
    V m c main_call0_cst (ix2 p q) = if p.val / 8 / 6 * 4 + p.val % 8 / 2 = q.val then (1 : EReal) else 0 := by
  rw [V_cst]
  have e : (S192x16.rowMajor (ix2 p q) : Fin 3072) = (⟨16 * p.val + q.val, by omega⟩ : Fin 3072) := by
    refine Fin.ext ?_
    rw [Shape.rowMajor_val_two]
    show p.val * 16 + q.val = 16 * p.val + q.val
    omega
  show Ideal.ofBits .f32 (lit0 (S192x16.rowMajor (ix2 p q))) = _
  rw [e, lit0_eq]
  dsimp only
  rw [show (16 * p.val + q.val) / 16 = p.val by omega, show (16 * p.val + q.val) % 16 = q.val by omega]
  split_ifs <;> simp

/-- The first convolutions' biases, as a column of 24. -/
theorem V_v23 : V m c main_call0_v23 = shapeCast S24x1 (a2 m c) shapeCasts_S3x8_S24x1 := by
  show StableHlo.after hostOps0 _ (Proc.devRef .tc main_call0_v23) = _
  after_results
  rfl

/-- The second convolution's weights, as 16 rows of 72: offset first, then channel. -/
theorem V_v26 : V m c main_call0_v26 = transpose S16x72 [1, 0] (shapeCast S72x16 (transpose S3x3x8x16 [2, 3, 1, 0] (a3 m c) transposes_S16x8x3x3_S3x3x8x16_2_3_1_0) shapeCasts_S3x3x8x16_S72x16) transposes_S72x16_S16x72_1_0 := by
  show StableHlo.after hostOps0 _ (Proc.devRef .tc main_call0_v26) = _
  after_results
  rfl

/-- The second convolution's biases, as a column. -/
theorem V_v27 : V m c main_call0_v27 = shapeCast S16x1 (a4 m c) shapeCasts_S16_S16x1 := by
  show StableHlo.after hostOps0 _ (Proc.devRef .tc main_call0_v27) = _
  after_results
  rfl

/-- The projection's weights, with the pooled image's channel and window as axes. -/
theorem V_v28 : V m c main_call0_v28 = shapeCast S64x16x16 (a5 m c) shapeCasts_S64x256_S64x16x16 := by
  show StableHlo.after hostOps0 _ (Proc.devRef .tc main_call0_v28) = _
  after_results
  rfl

/-- The projection's biases, as a row. -/
theorem V_v29 : V m c main_call0_v29 = shapeCast S1x64 (a6 m c) shapeCasts_S64_S1x64 := by
  show StableHlo.after hostOps0 _ (Proc.devRef .tc main_call0_v29) = _
  after_results
  rfl

/-- The logits, one row to a sample. -/
theorem V_v30 : V m c main_call0_v30 = shapeCast S32x1x192 (a0 m c) shapeCasts_S32x192_S32x1x192 := by
  show StableHlo.after hostOps0 _ (Proc.devRef .tc main_call0_v30) = _
  after_results
  rfl

section
attribute [local irreducible] Host.scatter

/-- The block matrix of the first convolutions' weights: three writes into zeros. -/
theorem V_v22 : V m c main_call0_v22 =
    Host.scatter scatter_S24x27_S2_S8x9_01_n_01_0 (fun _ b => b)
      (Host.scatter scatter_S24x27_S2_S8x9_01_n_01_0 (fun _ b => b)
        (Host.scatter scatter_S24x27_S2_S8x9_01_n_01_0 (fun _ b => b)
          (broadcastInDim S24x27 ![] bcast_S_S24x27 (constant (F := Ideal) S_ .f32 0x00000000#32))
          (two 0#32 0#32) (filt (a1 m c) ![0, 0, 0, 0] slices_S3x8x3x3_S1x8x3x3_0_0_0_0))
        (two 8#32 9#32) (filt (a1 m c) ![1, 0, 0, 0] slices_S3x8x3x3_S1x8x3x3_1_0_0_0))
      (two 16#32 18#32) (filt (a1 m c) ![2, 0, 0, 0] slices_S3x8x3x3_S1x8x3x3_2_0_0_0) := by
  show StableHlo.after hostOps0 _ (Proc.devRef .tc main_call0_v22) = _
  unfold two filt
  after_results
  rfl

end

/-- The block-diagonal filter matrix the kernel is given. -/
theorem V_v22_at (g : Fin 3) (ch : Fin 8) (g' dy dx : Fin 3) :
    V m c main_call0_v22 (ix2 ⟨8 * g.val + ch.val, by omega⟩ ⟨9 * g'.val + 3 * dy.val + dx.val, by omega⟩)
      = if g' = g then a1 m c (ix5 g ch 0 dy dx) else (0 : EReal) := by
  rw [V_v22, set_block _ _ _ 16 18 (by omega) (by omega) (two_0 _ _) (two_1 _ _), set_block _ _ _ 8 9 (by omega) (by omega) (two_0 _ _) (two_1 _ _),
    set_block _ _ _ 0 0 (by omega) (by omega) (two_0 _ _) (two_1 _ _)]
  dsimp only
  split_ifs with h1 h2 h2 h3 h3 h4 h4
  · have e : g = 2 := Fin.ext (by show g.val = 2; omega)
    subst e
    exact filt_at _ 2 _ _ _ ch dy dx (Fin.ext (by show _ = ch.val; simp)) (by subst h2; show 9 * 2 + _ + _ - 18 = _; omega)
  · exact absurd (Fin.ext (by omega)) h2
  · have e : g = 1 := Fin.ext (by show g.val = 1; omega)
    subst e
    exact filt_at _ 1 _ _ _ ch dy dx (Fin.ext (by show _ = ch.val; simp)) (by subst h3; show 9 * 1 + _ + _ - 9 = _; omega)
  · exact absurd (Fin.ext (by omega)) h3
  · have e : g = 0 := Fin.ext (by show g.val = 0; omega)
    subst e
    exact filt_at _ 0 _ _ _ ch dy dx (Fin.ext (by show _ = ch.val; simp)) (by subst h4; show 9 * 0 + _ + _ - 0 = _; omega)
  · exact absurd (Fin.ext (by omega)) h4
  · exfalso; subst h4; omega
  · pointwise

/-- The arrays the kernel is given are the host's arguments, laid out as its body reads them. -/
theorem blocks : Blocks (V m c main_call0_v22) (V m c main_call0_v23) (V m c main_call0_v26) (V m c main_call0_v27) (V m c main_call0_v28)
    (V m c main_call0_v29) (V m c main_call0_cst)
    (fun g ch dy dx => a1 m c (ix5 g ch 0 dy dx)) (fun g ch => a2 m c (ix2 g ch))
    (fun o ch dy dx => a3 m c (ix4 o ch dy dx)) (fun o => a4 m c (ix1 o))
    (fun k q => a5 m c (ix2 k q)) (fun k => a6 m c (ix1 k)) where
  h1 := V_v22_at m c
  h2 g ch := by
    rw [V_v23]
    refine shapeCast_apply _ _ _ _ ?_
    rw [Shape.rowMajor_val_two, Shape.rowMajor_val_two]
    show g.val * 8 + ch.val = (8 * g.val + ch.val) * 1 + 0
    omega
  h3 o dy dx ch := by
    rw [V_v26, transpose_apply _ _ _ _ (ix2 ⟨8 * (3 * dy.val + dx.val) + ch.val, by omega⟩ o), shapeCast_apply _ _ _ (ix4 dy dx ch o),
      transpose_apply _ _ _ _ (ix4 o ch dy dx)]
    · intro a; fin_cases a <;> rfl
    · rw [Shape.rowMajor_val_four, Shape.rowMajor_val_two]
      show ((dy.val * 3 + dx.val) * 8 + ch.val) * 16 + o.val = (8 * (3 * dy.val + dx.val) + ch.val) * 16 + o.val
      omega
    · intro a; fin_cases a <;> rfl
  h4 o := by
    rw [V_v27]
    refine shapeCast_apply _ _ _ _ ?_
    rw [Shape.rowMajor_val_one, Shape.rowMajor_val_two]
    show o.val = o.val * 1 + 0
    omega
  h5 k o q := by
    rw [V_v28]
    refine shapeCast_apply _ _ _ _ ?_
    rw [Shape.rowMajor_val_two, Shape.rowMajor_val_three]
    show k.val * 256 + (16 * o.val + q.val) = (k.val * 16 + o.val) * 16 + q.val
    omega
  h6 k := by
    rw [V_v29]
    refine shapeCast_apply _ _ _ _ ?_
    rw [Shape.rowMajor_val_one, Shape.rowMajor_val_two]
    show k.val = 0 * 64 + k.val
    omega
  h7 := V_pool m c

/-- The row of logits the kernel is given for a sample. -/
theorem V_v30_at (s : Fin 32) (i : Fin 192) : V m c main_call0_v30 (ix3 s 0 i) = a0 m c (ix2 s i) := by
  rw [V_v30]
  refine shapeCast_apply _ _ _ _ ?_
  rw [Shape.rowMajor_val_two, Shape.rowMajor_val_three]
  show s.val * 192 + i.val = (s.val * 1 + 0) * 192 + i.val
  omega

end Cert.KernelIdeal.Stage
-- ==== Proof.Link.lean ====
module

public import proofs.«01_k».proof.Proof.Stages

@[expose] public section

/-! What the body stores for each of its 32 samples, as the stages of `Proof.Stages` at that sample's row. -/

set_option maxRecDepth 16384

noncomputable section

namespace Cert.KernelIdeal.Stage

open Idealize.ShloMosaic Idealize.SL.Sem Cert.KernelIdeal.Gen

variable {F : FTy → Type} [FloatOps F] [Named F]
variable (x0 : Vec F S32x1x192 .f32) (x1 : Vec F S24x27 .f32) (x2 : Vec F S24x1 .f32) (x3 : Vec F S16x72 .f32) (x4 : Vec F S16x1 .f32) (x5 : Vec F S64x16x16 .f32) (x6 : Vec F S1x64 .f32) (x7 : Vec F S192x16 .f32)

/-- Sample `s`'s row lies inside the logits' block. -/
theorem inb (s : Fin 32) : ∀ a, (![s.val, 0, 0] : Fin 3 → ℕ) a + S1x1x192.size a ≤ S32x1x192.size a := by
  intro a; fin_cases a <;> simp <;> omega

/-- Sample `s`'s row of the logits' block. -/
abbrev rowAt (s : Fin 32) : Rect S32x1x192 := Rect.unit (s := S32x1x192) ![s.val, 0, 0] S1x1x192.size (inb s)

/-- Sample `s`'s row lies inside an output's block. -/
theorem inbOut (s : Fin 32) : ∀ a, (![s.val, 0, 0] : Fin 3 → ℕ) a + S1x1x128.size a ≤ S32x1x128.size a := by
  intro a; fin_cases a <;> simp <;> omega

/-- Sample `s`'s row of an output's block. -/
abbrev outAt (s : Fin 32) : Rect S32x1x128 := Rect.unit (s := S32x1x128) ![s.val, 0, 0] S1x1x128.size (inbOut s)

/-- Sample `s`'s sorted addresses. -/
def sortedAt (s : Fin 32) : FVec F S1x192 .f32 := sorted (cmpOf (View.ld x0 (rowAt s)))

/-- Sample `s`'s operation logits. -/
def olAt (s : Fin 32) : FVec F S1x64 .f32 :=
  olOf (cmpOf (View.ld x0 (rowAt s))) (View.ld x1 r0_32) (View.ld x2 r0_33) (View.ld x3 r0_34) (View.ld x4 r0_35) (View.ld x5 r0_37) (View.ld x6 r0_38) (View.ld x7 r0_36)

/-- The first output is its 32 stores, one of each sample's inter penalty. -/
theorem out8_pieces : out0_8 x0 x1 x2 x3 x4 x5 x6 x7 = View.canon (List.ofFn fun k : Fin 32 =>
    (⟨outAt k.rev, interOut (sortedAt x0 k.rev) (olAt x0 x1 x2 x3 x4 x5 x6 x7 k.rev)⟩ : View.Piece (Elt F) S32x1x128 .f32)) := rfl

/-- The second output is its 32 stores, one of each sample's intra penalty. -/
theorem out9_pieces : out0_9 x0 x1 x2 x3 x4 x5 x6 x7 = View.canon (List.ofFn fun k : Fin 32 =>
    (⟨outAt k.rev, intraOut (sortedAt x0 k.rev) (olAt x0 x1 x2 x3 x4 x5 x6 x7 k.rev)⟩ : View.Piece (Elt F) S32x1x128 .f32)) := rfl

end Cert.KernelIdeal.Stage
-- ==== Proof.Sorting.lean ====
module

public import proofs.«01_k».proof.Proof.Order
public import Idealize.ShloMosaic.Lib.SortFacts

@[expose] public section

/-! The stable sort of a row of values: its order of the positions, smaller values first and equal ones by position. -/

noncomputable section

namespace Cert.Order

open Idealize.ShloMosaic

variable {n : ℕ} (v : Fin n → EReal)

/-- The sort's comparison of two positions. -/
def less (a b : Fin n) : Bool := decide (v a < v b)

/-- Coming before is transitive. -/
theorem before_trans {a b c : Fin n} (h : Before v a b) (h' : Before v b c) : Before v a c := by
  rcases h with h | ⟨e, h⟩ <;> rcases h' with h' | ⟨e', h'⟩
  · exact Or.inl (lt_trans h h')
  · exact Or.inl (by rwa [← e'])
  · exact Or.inl (by rwa [e])
  · exact Or.inr ⟨e.trans e', lt_trans h h'⟩

/-- Inserting a position that comes before all of a sorted list keeps the list sorted. -/
theorem pairwise_insert (a : Fin n) (l : List (Fin n)) (ha : ∀ b ∈ l, a < b) (hl : l.Pairwise (Before v)) :
    (insertBefore (less v) a l).Pairwise (Before v) := by
  induction l with
  | nil => exact List.pairwise_singleton _ _
  | cons b l ih =>
    rw [List.pairwise_cons] at hl
    unfold insertBefore
    split_ifs with h
    · refine List.pairwise_cons.2 ⟨fun x hx => ?_, ih (fun x hx => ha x (List.mem_cons_of_mem _ hx)) hl.2⟩
      rcases List.mem_cons.1 ((perm_insertBefore _ _ _).mem_iff.1 hx) with rfl | hx
      · exact Or.inl (of_decide_eq_true h)
      · exact hl.1 x hx
    · have hab : Before v a b := by
        rcases lt_or_eq_of_le (not_lt.1 fun hlt => h (decide_eq_true hlt)) with hlt | e
        · exact Or.inl hlt
        · exact Or.inr ⟨e, ha b List.mem_cons_self⟩
      refine List.pairwise_cons.2 ⟨fun x hx => ?_, List.pairwise_cons.2 hl⟩
      rcases List.mem_cons.1 hx with rfl | hx
      · exact hab
      · exact before_trans v hab (hl.1 x hx)

/-- A stable sort of positions in ascending order lists them smaller value first, equal ones by position. -/
theorem pairwise_sort (l : List (Fin n)) (hl : l.Pairwise (· < ·)) : (stableSort (less v) l).Pairwise (Before v) := by
  induction l with
  | nil => exact List.Pairwise.nil
  | cons a l ih =>
    rw [List.pairwise_cons] at hl
    exact pairwise_insert v a _ (fun b hb => hl.1 b ((perm_stableSort _ _).mem_iff.1 hb)) (ih hl.2)

/-- The order of a row's positions a stable sort puts them in. -/
def order : Equiv.Perm (Fin n) := Equiv.ofBijective (sortedFrom (less v)) ⟨sortedFrom_injective _, sortedFrom_surjective _⟩

/-- The order at `k` is the position that the sort puts there. -/
theorem order_apply (k : Fin n) : order v k = sortedFrom (less v) k := rfl

/-- The stable sort's order sorts the row. -/
theorem sorts_order : Sorts v (order v) := by
  intro a b hab
  rw [order_apply, order_apply]
  unfold sortedFrom
  exact List.pairwise_iff_get.mp (pairwise_sort v _ (List.pairwise_lt_finRange n)) _ _ hab

end Cert.Order
-- ==== Proof.KRun.lean ====
module

public import proofs.«01_k».proof.Proof.KHost
public import proofs.«01_k».proof.Proof.Link
public import Idealize.ShloMosaic.Lib.Pipeline.ValueKit
public import Idealize.ShloMosaic.Lib.Claim
public import proofs.«01_k».proof.Proof.Sorting

@[expose] public section

/-! What the kernel's run leaves in its two results: every sample's two costs. -/

set_option maxRecDepth 16384

noncomputable section

namespace Cert.KernelIdeal.Stage

open Idealize.ShloMosaic Idealize.ShloMosaic.TcCoe Idealize.SL.Sem Cert.KernelIdeal Cert.KernelIdeal.Gen Cert.Order Cert.Spec

variable (m : (ℓ : Loc nD τ sig) → Buf (Elt Ideal) ℓ) (c : Dev nD)

/-- A window whose block is its whole array places every index of the block at the same index of the array. -/
theorem emb_whole (w : Fin cfg0.W) (t : Fin cfg0.N) (h : ∀ a, (cfg0.win w).index t a = 0) (y : ((cfg0.win w).xblock (cfg0.grid.coords t)).Idx)
    (z : (cfg0.win w).shape.Idx) (hz : ∀ a, (y a : ℕ) = z a) : ((cfg0.win w).blk t).view.emb y = (cfg0.win w).arr.view.emb z := by
  show (cfg0.win w).arr.view.emb (((cfg0.win w).rect t).emb y) = _
  refine congrArg (fun q => (cfg0.win w).arr.view.emb q) (funext fun a => Fin.ext ?_)
  rw [Pipeline.Window.rect_emb_val_of_index_zero _ _ _ (h a)]
  exact hz a

/-- Every window's block begins at the array's origin. -/
theorem index0 (t : Fin cfg0.N) : ∀ w a, (cfg0.win w).index t a = 0 := by
  rw [fin_N0 t]
  decide +kernel

/-- Operand 0's block is the whole of its array. -/
theorem iblk0 (t : Fin cfg0.N) : iblk m c 0 t = V m c main_call0_v30 := funext fun y => congrArg (V m c main_call0_v30) (emb_whole 0 t (index0 t 0) y y fun _ => rfl)
/-- Operand 1's block is the whole of its array. -/
theorem iblk1 (t : Fin cfg0.N) : iblk m c 1 t = V m c main_call0_v22 := funext fun y => congrArg (V m c main_call0_v22) (emb_whole 1 t (index0 t 1) y y fun _ => rfl)
/-- Operand 2's block is the whole of its array. -/
theorem iblk2 (t : Fin cfg0.N) : iblk m c 2 t = V m c main_call0_v23 := funext fun y => congrArg (V m c main_call0_v23) (emb_whole 2 t (index0 t 2) y y fun _ => rfl)
/-- Operand 3's block is the whole of its array. -/
theorem iblk3 (t : Fin cfg0.N) : iblk m c 3 t = V m c main_call0_v26 := funext fun y => congrArg (V m c main_call0_v26) (emb_whole 3 t (index0 t 3) y y fun _ => rfl)
/-- Operand 4's block is the whole of its array. -/
theorem iblk4 (t : Fin cfg0.N) : iblk m c 4 t = V m c main_call0_v27 := funext fun y => congrArg (V m c main_call0_v27) (emb_whole 4 t (index0 t 4) y y fun _ => rfl)
/-- Operand 5's block is the whole of its array. -/
theorem iblk5 (t : Fin cfg0.N) : iblk m c 5 t = V m c main_call0_v28 := funext fun y => congrArg (V m c main_call0_v28) (emb_whole 5 t (index0 t 5) y y fun _ => rfl)
/-- Operand 6's block is the whole of its array. -/
theorem iblk6 (t : Fin cfg0.N) : iblk m c 6 t = V m c main_call0_v29 := funext fun y => congrArg (V m c main_call0_v29) (emb_whole 6 t (index0 t 6) y y fun _ => rfl)
/-- Operand 7's block is the whole of its array. -/
theorem iblk7 (t : Fin cfg0.N) : iblk m c 7 t = V m c main_call0_cst := funext fun y => congrArg (V m c main_call0_cst) (emb_whole 7 t (index0 t 7) y y fun _ => rfl)

/-- A sample's row of the logits' block. -/
theorem ld_row (x0 : Vec Ideal S32x1x192 .f32) (s : Fin 32) (i : Fin 192) : View.ld x0 (rowAt s) (ix3 0 0 i) = x0 (ix3 s 0 i) := by
  refine View.ld_unit_apply_of x0 _ _ _ _ _ fun a => ?_
  fin_cases a
  · show s.val = s.val + 0; omega
  · rfl
  · show i.val = 0 + i.val; omega

variable {x0 : Vec Ideal S32x1x192 .f32} {x1 : FVec Ideal S24x27 .f32} {x2 : FVec Ideal S24x1 .f32} {x3 : FVec Ideal S16x72 .f32} {x4 : FVec Ideal S16x1 .f32}
    {x5 : FVec Ideal S64x16x16 .f32} {x6 : FVec Ideal S1x64 .f32} {x7 : FVec Ideal S192x16 .f32}
    {w : Fin 3 → Fin 8 → Fin 3 → Fin 3 → EReal} {b : Fin 3 → Fin 8 → EReal} {mw : Fin 16 → Fin 8 → Fin 3 → Fin 3 → EReal}
    {mb : Fin 16 → EReal} {pw : Fin 64 → Fin 256 → EReal} {pb : Fin 64 → EReal}
    {σ : Equiv.Perm (Fin 192)} {τ : Equiv.Perm (Fin 64)}

/-- The comparison matrix of a sample. -/
theorem cmp_row (s : Fin 32) (hx : ∀ i : Fin 192, Fin' (x0 (ix3 s 0 i))) (j i : Fin 192) :
    (cmpOf (View.ld x0 (rowAt s)) : FVec Ideal S192x192 .bf16) (ix2 j i) = if Before (fun k : Fin 192 => x0 (ix3 s 0 k)) j i then (1 : EReal) else 0 := by
  have e : ∀ k : Fin 192, shapeCast S1x192 (View.ld x0 (rowAt s)) shapeCasts_S1x1x192_S1x192 (ix2 0 k) = x0 (ix3 s 0 k) := by
    intro k
    rw [← ld_row x0 s k]
    refine shapeCast_apply _ _ _ _ ?_
    rw [Shape.rowMajor_val_two, Shape.rowMajor_val_three]
    show (0 * 1 + 0) * 192 + k.val = 0 * 192 + k.val
    omega
  rw [cmpOf, before192_at _ fun k => by rw [e]; exact hx k]
  simp only [e]

/-- A sample's sorted addresses. -/
theorem sortedAt_row (s : Fin 32) (hx : ∀ i : Fin 192, Fin' (x0 (ix3 s 0 i))) (hσ : Sorts (fun k : Fin 192 => x0 (ix3 s 0 k)) σ) (r : Fin 192) :
    sortedAt x0 s (ix2 0 r) = addr σ r :=
  sorted_at _ hσ _ (cmp_row s hx) r

/-- A sample's operation logits. -/
theorem olAt_row (B : Blocks x1 x2 x3 x4 x5 x6 x7 w b mw mb pw pb) (s : Fin 32) (hx : ∀ i : Fin 192, Fin' (x0 (ix3 s 0 i)))
    (hσ : Sorts (fun k : Fin 192 => x0 (ix3 s 0 k)) σ) (k : Fin 64) :
    olAt x0 x1 x2 x3 x4 x5 x6 x7 s (ix2 0 k) = logits w b mw mb pw pb σ k := by
  have z2 : ∀ a : Fin 2, (![0, 0] : Fin 2 → ℕ) a = 0 := by decide
  have z3 : ∀ a : Fin 3, (![0, 0, 0] : Fin 3 → ℕ) a = 0 := by decide
  unfold olAt
  have e1 : View.ld (Val := Elt Ideal) (e' := .f32) x1 r0_32 = x1 := by apply View.ld_unit_zero; exact funext z2
  have e2 : View.ld (Val := Elt Ideal) (e' := .f32) x2 r0_33 = x2 := by apply View.ld_unit_zero; exact funext z2
  have e3 : View.ld (Val := Elt Ideal) (e' := .f32) x3 r0_34 = x3 := by apply View.ld_unit_zero; exact funext z2
  have e4 : View.ld (Val := Elt Ideal) (e' := .f32) x4 r0_35 = x4 := by apply View.ld_unit_zero; exact funext z2
  have e5 : View.ld (Val := Elt Ideal) (e' := .f32) x5 r0_37 = x5 := by apply View.ld_unit_zero; exact funext z3
  have e6 : View.ld (Val := Elt Ideal) (e' := .f32) x6 r0_38 = x6 := by apply View.ld_unit_zero; exact funext z2
  have e7 : View.ld (Val := Elt Ideal) (e' := .f32) x7 r0_36 = x7 := by apply View.ld_unit_zero; exact funext z2
  rw [e1, e2, e3, e4, e5, e6, e7]
  exact olOf_spec B hσ _ (cmp_row s hx) k

/-- The rows of an output's block, read at an index: row `s` is the one stored for sample `s`. -/
theorem rows_at (P : Fin 32 → FVec Ideal S1x1x128 .f32) (s : Fin 32) (l : Fin 128) :
    View.canon (List.ofFn fun k : Fin 32 => (⟨outAt k.rev, P k.rev⟩ : View.Piece (Elt Ideal) S32x1x128 .f32)) (ix3 s 0 l) = P s (ix3 0 0 l) := by
  refine View.canon_ofFn_unit_eq_of_forall (S := S32x1x128) (Val := Elt Ideal) (e := .f32) (fun k : Fin 32 => ![k.rev.val, 0, 0]) S1x1x128.size (fun k => inbOut k.rev) (fun k => P k.rev) _ _
    ⟨s.rev, fun a => ?_⟩ fun k x hx => ?_
  · rw [Fin.rev_rev]
    fin_cases a
    · show s.val ≤ s.val ∧ s.val < s.val + 1; omega
    · show 0 ≤ 0 ∧ 0 < 0 + 1; omega
    · show 0 ≤ l.val ∧ l.val < 0 + 128; omega
  · have h0 : s.val = k.rev.val + (x 0).val := hx 0
    have h2 : l.val = 0 + (x 2).val := hx 2
    have b0 : (x 0).val < 1 := (x 0).isLt
    have b1 : (x 1).val < 1 := (x 1).isLt
    have es : k.rev = s := Fin.ext (by omega)
    show P k.rev x = _
    rw [es]
    refine congrArg (P s) (funext fun a => Fin.ext ?_)
    fin_cases a
    · show (x 0).val = 0; omega
    · show (x 1).val = 0; omega
    · show (x 2).val = l.val; omega

/-- What the body leaves in its first output at sample `s`: the inter-operation cost of the sample's two orders. -/
theorem out8_at (B : Blocks x1 x2 x3 x4 x5 x6 x7 w b mw mb pw pb) (s : Fin 32) (hx : ∀ i : Fin 192, Fin' (x0 (ix3 s 0 i)))
    (hσ : Sorts (fun k : Fin 192 => x0 (ix3 s 0 k)) σ) (hL : ∀ k, Fin' (logits w b mw mb pw pb σ k)) (hτ : Sorts (logits w b mw mb pw pb σ) τ)
    (l : Fin 128) : out0_8 x0 x1 x2 x3 x4 x5 x6 x7 (ix3 s 0 l) = inter σ τ := by
  rw [out8_pieces, rows_at (fun k => interOut (sortedAt x0 k) (olAt x0 x1 x2 x3 x4 x5 x6 x7 k))]
  exact interOut_at hτ _ (sortedAt_row s hx hσ) _ (before64_spec hL _ (olAt_row B s hx hσ)) l

/-- What the body leaves in its second output at sample `s`: the intra-operation cost. -/
theorem out9_at (B : Blocks x1 x2 x3 x4 x5 x6 x7 w b mw mb pw pb) (s : Fin 32) (hx : ∀ i : Fin 192, Fin' (x0 (ix3 s 0 i)))
    (hσ : Sorts (fun k : Fin 192 => x0 (ix3 s 0 k)) σ) (hL : ∀ k, Fin' (logits w b mw mb pw pb σ k)) (hτ : Sorts (logits w b mw mb pw pb σ) τ)
    (l : Fin 128) : out0_9 x0 x1 x2 x3 x4 x5 x6 x7 (ix3 s 0 l) = intra σ τ := by
  rw [out9_pieces, rows_at (fun k => intraOut (sortedAt x0 k) (olAt x0 x1 x2 x3 x4 x5 x6 x7 k))]
  exact intraOut_at hτ _ (sortedAt_row s hx hσ) _ (before64_spec hL _ (olAt_row B s hx hσ)) l

/-- The first output array after the run is what the body stores into it. -/
theorem arr8 : (dats m 0 c).arrAt 8 (cfgs 0).N = out0_8 (V m c main_call0_v30) (V m c main_call0_v22) (V m c main_call0_v23) (V m c main_call0_v26)
    (V m c main_call0_v27) (V m c main_call0_v28) (V m c main_call0_v29) (V m c main_call0_cst) := by
  refine (dats m 0 c).arrAt_eq_of_after_last 8 t0_0 (by decide +kernel) _ fun j => ?_
  rw [after0_8, iblk0, iblk1, iblk2, iblk3, iblk4, iblk5, iblk6, iblk7]
  rfl

/-- The second output array after the run is what the body stores into it. -/
theorem arr9 : (dats m 0 c).arrAt 9 (cfgs 0).N = out0_9 (V m c main_call0_v30) (V m c main_call0_v22) (V m c main_call0_v23) (V m c main_call0_v26)
    (V m c main_call0_v27) (V m c main_call0_v28) (V m c main_call0_v29) (V m c main_call0_cst) := by
  refine (dats m 0 c).arrAt_eq_of_after_last 9 t0_0 (by decide +kernel) _ fun j => ?_
  rw [after0_9, iblk0, iblk1, iblk2, iblk3, iblk4, iblk5, iblk6, iblk7]
  rfl

/-- The order of a sample's elements by their address logits. -/
def addrOrder (s : Fin 32) : Equiv.Perm (Fin 192) := order fun i => a0 m c (ix2 s i)

/-- A sample's operation logits over the program's arguments. -/
def opLogitsOf (s : Fin 32) : Fin 64 → EReal :=
  logits (fun g ch dy dx => a1 m c (ix5 g ch 0 dy dx)) (fun g ch => a2 m c (ix2 g ch)) (fun o ch dy dx => a3 m c (ix4 o ch dy dx))
    (fun o => a4 m c (ix1 o)) (fun k q => a5 m c (ix2 k q)) (fun k => a6 m c (ix1 k)) (addrOrder m c s)

/-- The order of a sample's operations by their logits. -/
def opOrder (s : Fin 32) : Equiv.Perm (Fin 64) := order (opLogitsOf m c s)

/-- Lane 0 of an output's block, sample by sample. -/
theorem lane0_at (x : FVec Ideal S32x1x128 .f32) (i : Fin 32) :
    shapeCast S32 (extractStridedSlice S32x1x1 ![0, 0, 0] x slices_S32x1x128_S32x1x1_0_0_0) shapeCasts_S32x1x1_S32 (ix1 i) = x (ix3 i 0 0) := by
  rw [shapeCast_apply _ _ (ix1 i) (ix3 i 0 0), extractStridedSlice_apply _ _ _ _ (ix3 i 0 0)]
  · intro a
    fin_cases a
    · show i.val = 0 + i.val; omega
    · rfl
    · rfl
  · rw [Shape.rowMajor_val_three, Shape.rowMajor_val_one]
    show (i.val * 1 + 0) * 1 + 0 = i.val
    omega

/-- The first result is lane 0 of the kernel's first output, -/
theorem tail_0 (W : Valuation Cert.KernelIdeal.τ sig (Elt Ideal)) : StableHlo.after hostOps1 W (Proc.devRef .tc main_v0_0) =
    shapeCast S32 (extractStridedSlice S32x1x1 ![0, 0, 0] (W (Proc.devRef .tc main_call0_v31_0) : FVec Ideal S32x1x128 .f32) slices_S32x1x128_S32x1x1_0_0_0) shapeCasts_S32x1x1_S32 := by
  after_results
  rfl

/-- and the second lane 0 of its second. -/
theorem tail_1 (W : Valuation Cert.KernelIdeal.τ sig (Elt Ideal)) : StableHlo.after hostOps1 W (Proc.devRef .tc main_v0_1) =
    shapeCast S32 (extractStridedSlice S32x1x1 ![0, 0, 0] (W (Proc.devRef .tc main_call0_v31_1) : FVec Ideal S32x1x128 .f32) slices_S32x1x128_S32x1x1_0_0_0) shapeCasts_S32x1x1_S32 := by
  after_results
  rfl

/-- After every run of the kernel's program from finite logits, its two results hold every sample's two costs. -/
theorem run (hx : ∀ c s i, Fin' (a0 m c (ix2 s i))) (hL : ∀ c s k, Fin' (opLogitsOf m c s k)) (g : Dev nD → PrngReg) : θ_run defs (onTc (τ := Cert.KernelIdeal.τ) (main (F := Ideal))) ⟨m, fun _ => 0, g⟩ (fun r => ∀ c : Dev nD,
      r.2.mem ((c.tc : Thread nD Cert.KernelIdeal.τ).loc main_v0_0) = (fun i => inter (addrOrder m c (i 0)) (opOrder m c (i 0)))
      ∧ r.2.mem ((c.tc : Thread nD Cert.KernelIdeal.τ).loc main_v0_1) = (fun i => intra (addrOrder m c (i 0)) (opOrder m c (i 0)))) := by
  have fx : ∀ c s i, Fin' (V m c main_call0_v30 (ix3 s 0 i)) := fun c s i => by rw [V_v30_at]; exact hx c s i
  have hσ : ∀ c s, Sorts (fun k : Fin 192 => V m c main_call0_v30 (ix3 s 0 k)) (addrOrder m c s) := fun c s => by
    rw [show (fun k : Fin 192 => V m c main_call0_v30 (ix3 s 0 k)) = fun k => a0 m c (ix2 s k) from funext fun k => V_v30_at m c s k]; exact sorts_order _
  run_from Gen.run_main m g
  · refine (tail_0 _).trans (funext fun i => ?_)
    idx_vars i
    refine (lane0_at _ i0).trans ?_
    refine (congrFun ((Pipeline.withArrays_arr spec0 winFacts0.arr_inj c _ _ 8).trans (arr8 m c)) _).trans ?_
    exact out8_at (blocks m c) i0 (fx c i0) (hσ c i0) (hL c i0) (sorts_order _) 0
  · refine (tail_1 _).trans (funext fun i => ?_)
    idx_vars i
    refine (lane0_at _ i0).trans ?_
    refine (congrFun ((Pipeline.withArrays_arr spec0 winFacts0.arr_inj c _ _ 9).trans (arr9 m c)) _).trans ?_
    exact out9_at (blocks m c) i0 (fx c i0) (hσ c i0) (hL c i0) (sorts_order _) 0

end Cert.KernelIdeal.Stage
-- ==== Proof.Finite.lean ====
module

public import proofs.«01_k».proof.Defs
public import proofs.«01_k».proof.Proof.KRun
public import proofs.«01_k».proof.Proof.Gen.Pre_finite
public import Idealize.ShloMosaic.Lib.ReduceAll

@[expose] public section

/-! What the precondition `finite` says: every entry of every argument is finite. -/

noncomputable section

namespace Cert.Stage

open Idealize.ShloMosaic Idealize.SL.Sem Cert.Spec Cert.KernelIdeal.Stage

/-- A word that is the conjunction of two is one only if both are. -/
theorem and_one : ∀ a b : BitVec 1, IntOp.andi a b = 1#1 → a = 1#1 ∧ b = 1#1 := by decide

/-- An array whose absolute values are all below infinity has finite entries. -/
theorem fin_of_all {s t : Shape} {axes : List (Fin s.rank)} [Subsingleton t.Idx] (x : FVec Ideal s .f32)
    (hb : Cert.Pre_finite.S_.BroadcastsInDim s (![] : Fin 0 → Fin s.rank)) (hr : s.ReducesTo axes t) (hu : 0 < Cert.Pre_finite.S_.numel) (j : t.Idx)
    (h : Host.reduce IntOp.andi (cmpf .olt (Host.absf x) (broadcastInDim s ![] hb (constant Cert.Pre_finite.S_ .f32 0x7F800000#32))) (constantI Cert.Pre_finite.S_ 1 1#1) hr hu j = 1#1)
    (i : s.Idx) : Fin' (x i) := by
  have e := Host.reduce_andi_all _ _ _ _ _ h i
  have e' : BitVec.ofBool (decide (max (x i) (-x i) < Ideal.ofBits .f32 0x7F800000#32)) = 1#1 := e
  have ht : Ideal.ofBits .f32 0x7F800000#32 = ⊤ := by simp [Ideal.ofBits, Ideal.ieee]
  rw [ht] at e'
  have hlt : max (x i) (-x i) < ⊤ := by
    by_contra hn
    simp [hn] at e'
  refine ⟨fun h => ?_, fun h => ?_⟩
  · rw [h] at hlt; simp at hlt
  · rw [h] at hlt; simp at hlt

/-- Under the precondition every argument is finite. -/
theorem finite_args (m : (ℓ : Loc Cert.KernelIdeal.nD Cert.KernelIdeal.τ Cert.KernelIdeal.sig) → Buf (Elt Ideal) ℓ)
    (hpre : Cert.Pre_KernelIdeal_finite m) (c : Dev Cert.KernelIdeal.nD) :
    (∀ i, Fin' (a0 m c i)) ∧ (∀ i, Fin' (a1 m c i)) ∧ (∀ i, Fin' (a2 m c i)) ∧ (∀ i, Fin' (a3 m c i)) ∧ (∀ i, Fin' (a4 m c i)) ∧ (∀ i, Fin' (a5 m c i)) ∧ ∀ i, Fin' (a6 m c i) := by
  have h := congrFun (hpre c) (fun a => a.elim0)
  haveI : Subsingleton Cert.Pre_finite.S_.Idx := ⟨fun x y => funext fun a => a.elim0⟩
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h0, h1⟩ := and_one _ _ h
  exact ⟨fin_of_all _ _ _ _ _ h0, fin_of_all _ _ _ _ _ h1, fin_of_all _ _ _ _ _ h2, fin_of_all _ _ _ _ _ h3, fin_of_all _ _ _ _ _ h4,
    fin_of_all _ _ _ _ _ h5, fin_of_all _ _ _ _ _ h6⟩

end Cert.Stage
-- ==== Proof.RSort.lean ====
module

public import proofs.«01_k».proof.Proof.Sorting
public import proofs.«01_k».proof.Proof.Gen.ReferenceIdeal.Run
public import Idealize.ShloMosaic.Lib.Pointwise
public import Idealize.ShloMosaic.Lib.Pipeline.Value

@[expose] public section

/-! The reference's two argsorts, read at an index. -/

set_option maxRecDepth 16384

noncomputable section

namespace Cert.ReferenceIdeal.Stage

open Idealize.ShloMosaic Cert.ReferenceIdeal Cert.ReferenceIdeal.Gen Cert.ReferenceIdeal.Value Cert.Order

/-- The argsort's comparison is that of the keys. -/
theorem comparator_eq (l r : EReal × BitVec 32) : comparator_f32_i32_d1 (F := Ideal) l r = if l.1 < r.1 then 1#1 else 0#1 := by
  pointwise [comparator_f32_i32_d1]
  have e : ∀ x : EReal, (if x ≠ x then Ideal.ofBits FTy.f32 2143289344#32 else if x = 0 then 0 else x) = x := by
    intro x
    rw [if_neg (fun h => h rfl)]
    split_ifs with h
    · exact h.symm
    · rfl
  rw [e, e]
  rw [Ideal.cmpfTotal_def]
  show BitVec.ofBool (decide (l.1 < r.1)) = _
  split_ifs with h <;> simp [h]

/-- The argsort of a row lists its positions in the row's order. -/
theorem argsort_at {n : ℕ} (x : (⟨2, ![32, n]⟩ : Shape).Idx → EReal) (y : (⟨2, ![32, n]⟩ : Shape).Idx → BitVec 32)
    (hy : ∀ (s : Fin 32) (k : Fin n), y (ix2 s k) = BitVec.ofNat 32 k.val) (s : Fin 32) (r : Fin n) :
    (Host.sort2 ⟨2, ![32, n]⟩ 1 (comparator_f32_i32_d1 (F := Ideal)) x y).2 (ix2 s r) = BitVec.ofNat 32 (order (fun k => x (ix2 s k)) r).val := by
  have ea : ∀ k : Fin n, (ix2 s r : (⟨2, ![32, n]⟩ : Shape).Idx).along 1 k = ix2 s k := by
    intro k; funext a; fin_cases a <;> rfl
  have e : (fun k k' : Fin n => comparator_f32_i32_d1 (F := Ideal) (x (ix2 s k), y (ix2 s k)) (x (ix2 s k'), y (ix2 s k')) == 1#1)
      = less fun k => x (ix2 s k) := by
    funext k k'
    rw [comparator_eq]
    unfold less
    split_ifs with h <;> simp [h]
  rw [← hy s, order_apply, ← e]
  show y ((ix2 s r : (⟨2, ![32, n]⟩ : Shape).Idx).along 1 (sortedFrom (fun k k' : Fin n => comparator_f32_i32_d1 (F := Ideal)
      (x ((ix2 s r : (⟨2, ![32, n]⟩ : Shape).Idx).along 1 k), y ((ix2 s r : (⟨2, ![32, n]⟩ : Shape).Idx).along 1 k))
      (x ((ix2 s r : (⟨2, ![32, n]⟩ : Shape).Idx).along 1 k'), y ((ix2 s r : (⟨2, ![32, n]⟩ : Shape).Idx).along 1 k')) == 1#1) r)) = _
  simp only [ea]
  exact congrArg y (ea _)

variable (V0 : Valuation τ sig (Elt Ideal))

/-- The logits as the program takes them. -/
abbrev b0 : FVec Ideal S32x192 .f32 := V0 (Proc.devRef .tc main_arg0)
/-- The convolution's weights. -/
abbrev b1 : FVec Ideal S3x8x1x3x3 .f32 := V0 (Proc.devRef .tc main_arg1)
/-- The convolution's biases. -/
abbrev b2 : FVec Ideal S3x8 .f32 := V0 (Proc.devRef .tc main_arg2)
/-- The memory convolution's weights. -/
abbrev b3 : FVec Ideal S16x8x3x3 .f32 := V0 (Proc.devRef .tc main_arg3)
/-- The memory convolution's biases. -/
abbrev b4 : FVec Ideal S16 .f32 := V0 (Proc.devRef .tc main_arg4)
/-- The last layer's weights. -/
abbrev b5 : FVec Ideal S64x256 .f32 := V0 (Proc.devRef .tc main_arg5)
/-- The last layer's biases. -/
abbrev b6 : FVec Ideal S64 .f32 := V0 (Proc.devRef .tc main_arg6)

/-- The address order of sample `s`. -/
def sig0 (s : Fin 32) : Equiv.Perm (Fin 192) := order fun i => b0 V0 (ix2 s i)

/-- The first argsort. -/
theorem v0_at (s : Fin 32) (r : Fin 192) : res_main_v0 V0 (ix2 s r) = BitVec.ofNat 32 (sig0 V0 s r).val :=
  argsort_at (b0 V0) _ (fun _ _ => rfl) s r

/-- The second argsort. -/
theorem v183_at (s : Fin 32) (r : Fin 64) :
    res_main_v183 V0 (ix2 s r) = BitVec.ofNat 32 (order (fun k => res_main_v182 V0 (ix2 s k)) r).val :=
  argsort_at (res_main_v182 V0) _ (fun _ _ => rfl) s r

end Cert.ReferenceIdeal.Stage
-- ==== Proof.RFeats.lean ====
module

public import proofs.«01_k».proof.Proof.RSort
public import proofs.«01_k».proof.Proof.KSort
public import Idealize.ShloMosaic.Lib.KernelVsHost

@[expose] public section

/-! The reference's address grids and their features, read at an index. -/

set_option maxRecDepth 16384

noncomputable section

namespace Cert.ReferenceIdeal.Stage

open Idealize.ShloMosaic Cert.ReferenceIdeal Cert.ReferenceIdeal.Gen Cert.ReferenceIdeal.Value Cert.Order Cert.Spec

/-- One product of the first convolution: the grid shifted by `(oy, ox)` times that tap of the filter. -/
def tap (x : FVec Ideal S32x3x10x10 .f32) (w : FVec Ideal S3x8x1x3x3 .f32) (oy ox : ℕ)
    (h : S32x3x10x10.Slices ![0, 0, oy, ox] S32x3x8x8) (h' : S3x8x1x3x3.Slices ![0, 0, 0, oy, ox] S3x8x1x1x1) : FVec Ideal S32x3x8x8x8 .f32 :=
  mulf (broadcastInDim S32x3x8x8x8 ![0, 1, 2, 3, 4] bcast_S32x3x1x8x8_S32x3x8x8x8_0_1_2_3_4
      (broadcastInDim S32x3x1x8x8 ![0, 1, 3, 4] bcast_S32x3x8x8_S32x3x1x8x8_0_1_3_4 (extractStridedSlice S32x3x8x8 ![0, 0, oy, ox] x h)))
    (broadcastInDim S32x3x8x8x8 ![0, 1, 2, 3, 4] bcast_S1x3x8x1x1_S32x3x8x8x8_0_1_2_3_4
      (broadcastInDim S1x3x8x1x1 ![1, 2] bcast_S3x8_S1x3x8x1x1_1_2
        (shapeCast _ (extractStridedSlice S3x8x1x1x1 ![0, 0, 0, oy, ox] w h') shapeCasts_S3x8x1x1x1_S3x8)))

/-- One of the nine shifted products of the first convolutions, at a cell. -/
theorem tap_at (x : FVec Ideal S32x3x10x10 .f32) (w : FVec Ideal S3x8x1x3x3 .f32) (oy ox : Fin 3) (h h')
    (s : Fin 32) (m : Fin 3) (ch i j : Fin 8) :
    tap x w oy.val ox.val h h' (ix5 s m ch i j) =
      w (ix5 m ch 0 oy ox) * x (ix4 s m ⟨i.val + oy.val, by omega⟩ ⟨j.val + ox.val, by omega⟩) := by
  show _ * _ = _
  rw [mul_comm]
  congr 1
  · rw [broadcastInDim_apply _ _ _ _ (ix5 0 m ch 0 0) (by intro a; fin_cases a <;> rfl),
      broadcastInDim_apply _ _ _ _ (ix2 m ch) (by intro a; fin_cases a <;> rfl),
      shapeCast_apply _ _ _ (ix5 m ch 0 0 0) (by rw [Shape.rowMajor_val_five, Shape.rowMajor_val_two]; show _ = _; simp <;> omega),
      extractStridedSlice_apply _ _ _ _ (ix5 m ch 0 oy ox) (by intro a; fin_cases a <;> simp [ix5])]
  · rw [broadcastInDim_apply _ _ _ _ (ix5 s m 0 i j) (by intro a; fin_cases a <;> rfl),
      broadcastInDim_apply _ _ _ _ (ix4 s m i j) (by intro a; fin_cases a <;> rfl),
      extractStridedSlice_apply _ _ _ _ (ix4 s m ⟨i.val + oy.val, by omega⟩ ⟨j.val + ox.val, by omega⟩)
        (by intro a; fin_cases a <;> simp [ix4] <;> omega)]

variable (V0 : Valuation τ sig (Elt Ideal))

/-- The bordered grids. -/
theorem v3_at (s : Fin 32) (m : Fin 3) (y x : Fin 10) :
    (res_main_v3 V0 : FVec Ideal S32x3x10x10 .f32) (ix4 s m y x) = pixel (fun q => rd (addr (sig0 V0 s)) (64 * m.val + q)) 8 y.val x.val := by
  unfold res_main_v3 pixel
  split_ifs with h
  · rw [pad_apply_of_inside _ _ _ _ _ _ _ _ (ix4 s m (⟨y.val - 1, by omega⟩ : Fin 8) (⟨x.val - 1, by omega⟩ : Fin 8))
        (by intro a; fin_cases a <;> simp [ix4] <;> omega),
      shapeCast_apply _ _ _ (ix2 s ⟨64 * m.val + (8 * (y.val - 1) + (x.val - 1)), by omega⟩)
        (by rw [Shape.rowMajor_val_four, Shape.rowMajor_val_two]; show _ = _; simp <;> omega)]
    show FloatOps.sitofp .f32 (res_main_v0 V0 (ix2 s _)) = _
    rw [v0_at, KernelIdeal.Stage.sitofp_ofNat (by omega)]
    exact (rd_val (addr (sig0 V0 s)) ⟨64 * m.val + (8 * (y.val - 1) + (x.val - 1)), by omega⟩).symm
  · by_cases hy : 1 ≤ y.val ∧ y.val ≤ 8
    · rw [pad_apply_of_not_inside _ _ _ _ _ _ _ _ 3 (by simp [ix4]; omega)]
      show FloatOps.sitofp .f32 (BitVec.ofNat 32 0) = _
      rw [KernelIdeal.Stage.sitofp_ofNat (by omega)]; simp
    · rw [pad_apply_of_not_inside _ _ _ _ _ _ _ _ 2 (by simp [ix4]; omega)]
      show FloatOps.sitofp .f32 (BitVec.ofNat 32 0) = _
      rw [KernelIdeal.Stage.sitofp_ofNat (by omega)]; simp

/-- The first seven products of the first convolution, added. -/
theorem v67_eq : res_main_v67 V0 = addf (addf (addf (addf (addf (addf (addf (broadcastInDim S32x3x8x8x8 ![] bcast_S_S32x3x8x8x8 (constant S_ .f32 0x00000000#32))
    (tap (res_main_v3 V0) (b1 V0) 0 0 slices_S32x3x10x10_S32x3x8x8_0_0_0_0 slices_S3x8x1x3x3_S3x8x1x1x1_0_0_0_0_0))
    (tap (res_main_v3 V0) (b1 V0) 0 1 slices_S32x3x10x10_S32x3x8x8_0_0_0_1 slices_S3x8x1x3x3_S3x8x1x1x1_0_0_0_0_1))
    (tap (res_main_v3 V0) (b1 V0) 0 2 slices_S32x3x10x10_S32x3x8x8_0_0_0_2 slices_S3x8x1x3x3_S3x8x1x1x1_0_0_0_0_2))
    (tap (res_main_v3 V0) (b1 V0) 1 0 slices_S32x3x10x10_S32x3x8x8_0_0_1_0 slices_S3x8x1x3x3_S3x8x1x1x1_0_0_0_1_0))
    (tap (res_main_v3 V0) (b1 V0) 1 1 slices_S32x3x10x10_S32x3x8x8_0_0_1_1 slices_S3x8x1x3x3_S3x8x1x1x1_0_0_0_1_1))
    (tap (res_main_v3 V0) (b1 V0) 1 2 slices_S32x3x10x10_S32x3x8x8_0_0_1_2 slices_S3x8x1x3x3_S3x8x1x1x1_0_0_0_1_2))
    (tap (res_main_v3 V0) (b1 V0) 2 0 slices_S32x3x10x10_S32x3x8x8_0_0_2_0 slices_S3x8x1x3x3_S3x8x1x1x1_0_0_0_2_0) := rfl

/-- The features, per sample, grid, channel, row and column. -/
def feats : FVec Ideal S32x3x8x8x8 .f32 :=
  maximumf (addf (addf (addf (res_main_v67 V0) (tap (res_main_v3 V0) (b1 V0) 2 1 slices_S32x3x10x10_S32x3x8x8_0_0_2_1 slices_S3x8x1x3x3_S3x8x1x1x1_0_0_0_2_1))
    (tap (res_main_v3 V0) (b1 V0) 2 2 slices_S32x3x10x10_S32x3x8x8_0_0_2_2 slices_S3x8x1x3x3_S3x8x1x1x1_0_0_0_2_2))
    (broadcastInDim S32x3x8x8x8 ![0, 1, 2, 3, 4] bcast_S1x3x8x1x1_S32x3x8x8x8_0_1_2_3_4 (broadcastInDim S1x3x8x1x1 ![1, 2] bcast_S3x8_S1x3x8x1x1_1_2 (b2 V0))))
    (broadcastInDim S32x3x8x8x8 ![] bcast_S_S32x3x8x8x8 (constant S_ .f32 0x00000000#32))

/-- The first convolution's weights as the mathematics takes them. -/
abbrev rw1 (m : Fin 3) (ch : Fin 8) (dy dx : Fin 3) : EReal := b1 V0 (ix5 m ch 0 dy dx)
/-- The first convolution's biases as the mathematics takes them. -/
abbrev rb1 (m : Fin 3) (ch : Fin 8) : EReal := b2 V0 (ix2 m ch)

/-- The features are the mathematics' features. -/
theorem feats_at (s : Fin 32) (m : Fin 3) (ch i j : Fin 8) :
    feats V0 (ix5 s m ch i j) = feat (rw1 V0) (rb1 V0) (addr (sig0 V0 s)) ch m ⟨8 * i.val + j.val, by omega⟩ := by
  have hz : (broadcastInDim S32x3x8x8x8 ![] bcast_S_S32x3x8x8x8 (constant S_ .f32 0x00000000#32) : FVec Ideal S32x3x8x8x8 .f32) (ix5 s m ch i j) = 0 := by
    show Ideal.ofBits .f32 0 = 0
    simp [Ideal.ofBits, Ideal.ieee]
  have hb : (broadcastInDim S32x3x8x8x8 ![0, 1, 2, 3, 4] bcast_S1x3x8x1x1_S32x3x8x8x8_0_1_2_3_4 (broadcastInDim S1x3x8x1x1 ![1, 2] bcast_S3x8_S1x3x8x1x1_1_2 (b2 V0)) : FVec Ideal S32x3x8x8x8 .f32) (ix5 s m ch i j) = b2 V0 (ix2 m ch) := by
    rw [broadcastInDim_apply _ _ _ _ (ix5 0 m ch 0 0) (by intro a; fin_cases a <;> rfl),
      broadcastInDim_apply _ _ _ _ (ix2 m ch) (by intro a; fin_cases a <;> rfl)]
  have ht : ∀ (oy ox : Fin 3) (h h'), tap (res_main_v3 V0) (b1 V0) oy.val ox.val h h' (ix5 s m ch i j) =
      rw1 V0 m ch oy ox * pixel (fun q => rd (addr (sig0 V0 s)) (64 * m.val + q)) 8 (i.val + oy.val) (j.val + ox.val) := by
    intro oy ox h h'
    rw [tap_at, v3_at]
  unfold feats feat
  rw [v67_eq]
  show max (((((((((((_ + tap _ _ (0 : Fin 3).val (0 : Fin 3).val _ _ _) + tap _ _ (0 : Fin 3).val (1 : Fin 3).val _ _ _) + tap _ _ (0 : Fin 3).val (2 : Fin 3).val _ _ _)
    + tap _ _ (1 : Fin 3).val (0 : Fin 3).val _ _ _) + tap _ _ (1 : Fin 3).val (1 : Fin 3).val _ _ _) + tap _ _ (1 : Fin 3).val (2 : Fin 3).val _ _ _)
    + tap _ _ (2 : Fin 3).val (0 : Fin 3).val _ _ _) + tap _ _ (2 : Fin 3).val (1 : Fin 3).val _ _ _) + tap _ _ (2 : Fin 3).val (2 : Fin 3).val _ _ _)) + _) _ = _
  rw [hz, hb]
  simp only [ht]
  have e1 : (8 * i.val + j.val) / 8 = i.val := by omega
  have e2 : (8 * i.val + j.val) % 8 = j.val := by omega
  simp only [e1, e2, Fin.sum_univ_three, zero_add, ← add_assoc]

end Cert.ReferenceIdeal.Stage
-- ==== Proof.RMem.lean ====
module

public import proofs.«01_k».proof.Proof.RFeats
public import Idealize.ShloMosaic.Lib.Routing.OpsPair
public import Idealize.ShloMosaic.Lib.Routing.OpsSet

@[expose] public section

/-! The reference's memory image, its convolution, its pooling and the operation logits, read at an index. -/

set_option maxRecDepth 16384

noncomputable section

namespace Cert.ReferenceIdeal.Stage

open Idealize.ShloMosaic Cert.ReferenceIdeal Cert.ReferenceIdeal.Gen Cert.ReferenceIdeal.Value Cert.Order Cert.Spec
open KernelIdeal.Stage (toInt_ofNat sitofp_ofNat)

variable (V0 : Valuation τ sig (Elt Ideal))

/-- An index that is not negative is not wrapped. -/
theorem wrap_ofNat {n : ℕ} (h : n < 2 ^ 31) (a : BitVec 32) :
    Scalar.select (IntOp.cmpi .slt (BitVec.ofNat 32 n) 0#32) a (BitVec.ofNat 32 n) = BitVec.ofNat 32 n :=
  Routing.wrap_of_lt _ a (by rw [BitVec.toNat_ofNat]; omega)

/-- Entry `(s, i, ch)` of the scatter that writes row `e` of sample `s` at row `σ s e`. -/
theorem scatter_rows (x0 : FVec Ideal S32x192x8 .f32) (idx : IVec S32x192x2 32) (upd : FVec Ideal S32x192x8 .f32) (σ : Fin 32 → Equiv.Perm (Fin 192))
    (h0 : ∀ s e, idx (ix3 s e 0) = BitVec.ofNat 32 s.val) (h1 : ∀ s e, idx (ix3 s e 1) = BitVec.ofNat 32 (σ s e).val)
    (s : Fin 32) (i : Fin 192) (ch : Fin 8) :
    Host.scatter scatter_S32x192x8_S32x192x2_S32x192x8_2_01_01_2 (fun _ b => b) x0 idx upd (ix3 s i ch) = upd (ix3 s ((σ s).symm i) ch) := by
  have key : ∀ (s' : Fin 32) (e : Fin 192) (c : Fin 8), scatter_S32x192x8_S32x192x2_S32x192x8_2_01_01_2.resultIdx? (ix3 s' e c) idx = some (ix3 s i ch) ↔
      s'.val = s.val ∧ (σ s' e).val = i.val ∧ c.val = ch.val := by
    intro s' e c
    rw [Routing.resultIdx?_eq_some, Fin.forall_fin_succ, Fin.forall_fin_two]
    have s0 : scatter_S32x192x8_S32x192x2_S32x192x8_2_01_01_2.start (ix3 s' e c) idx 0 = (idx (ix3 s' e 0)).toInt := by
      refine congrArg (fun q => (idx q).toInt) ?_
      funext q; fin_cases q <;> rfl
    have s1 : scatter_S32x192x8_S32x192x2_S32x192x8_2_01_01_2.start (ix3 s' e c) idx 1 = (idx (ix3 s' e 1)).toInt := by
      refine congrArg (fun q => (idx q).toInt) ?_
      funext q; fin_cases q <;> rfl
    have s2 : scatter_S32x192x8_S32x192x2_S32x192x8_2_01_01_2.start (ix3 s' e c) idx 2 = 0 := rfl
    have w0 : scatter_S32x192x8_S32x192x2_S32x192x8_2_01_01_2.window (ix3 s' e c) 0 = 0 := rfl
    have w1 : scatter_S32x192x8_S32x192x2_S32x192x8_2_01_01_2.window (ix3 s' e c) 1 = 0 := rfl
    have w2 : scatter_S32x192x8_S32x192x2_S32x192x8_2_01_01_2.window (ix3 s' e c) 2 = c.val := rfl
    have r0 : ((ix3 s i ch : S32x192x8.Idx) 0).val = s.val := rfl
    have r1 : ((ix3 s i ch : S32x192x8.Idx) 1).val = i.val := rfl
    have r2 : ((ix3 s i ch : S32x192x8.Idx) 2).val = ch.val := rfl
    show scatter_S32x192x8_S32x192x2_S32x192x8_2_01_01_2.start (ix3 s' e c) idx 0 + _ = _ ∧
      scatter_S32x192x8_S32x192x2_S32x192x8_2_01_01_2.start (ix3 s' e c) idx 1 + _ = _ ∧
      scatter_S32x192x8_S32x192x2_S32x192x8_2_01_01_2.start (ix3 s' e c) idx 2 + _ = _ ↔ _
    have q1 : ((σ s' e).val : ℕ) < 192 := (σ s' e).isLt
    rw [s0, s1, s2, h0, h1, toInt_ofNat (by omega), toInt_ofNat (by omega)]
    change (s'.val : ℤ) + (0 : ℕ) = (s.val : ℕ) ∧ ((σ s' e).val : ℤ) + (0 : ℕ) = (i.val : ℕ) ∧ (0 : ℤ) + (c.val : ℕ) = (ch.val : ℕ) ↔ _
    omega
  refine Routing.scatter_set_hit _ _ _ _ _ _ (fun k hk => ?_) (ix3 s ((σ s).symm i) ch) ((key _ _ _).2 ⟨rfl, ?_, rfl⟩)
  · idx_vars k
    obtain ⟨q0, q1, q2⟩ := (key _ _ _).1 hk
    have e0 : k0 = s := Fin.ext q0
    have e2 : k2 = ch := Fin.ext q2
    subst e0 e2
    have e1 : k1 = (σ k0).symm i := by rw [Equiv.eq_symm_apply]; exact Fin.ext q1
    rw [e1]
  · rw [Equiv.apply_symm_apply]

/-- The scatter's index pairs. -/
def scatterIdx : IVec S32x192x2 32 :=
  concatenate S32x192x2 2 [⟨S32x192x1, (broadcastInDim S32x192x1 ![0, 1] bcast_S32x192_S32x192x1_0_1 (broadcastInDim S32x192 ![0, 1] bcast_S32x1_S32x192_0_1 (select (cmpi .slt (res_main_v94 V0) (broadcastInDim S32x1 ![] bcast_S_S32x1 (constantI S_ 32 0#32))) (addi (res_main_v94 V0) (broadcastInDim S32x1 ![] bcast_S_S32x1 (constantI S_ 32 32#32))) (res_main_v94 V0))))⟩, ⟨S32x192x1, (broadcastInDim S32x192x1 ![0, 1] bcast_S32x192_S32x192x1_0_1 (select (cmpi .slt (res_main_v0 V0) (broadcastInDim S32x192 ![] bcast_S_S32x192 (constantI S_ 32 0#32))) (addi (res_main_v0 V0) (broadcastInDim S32x192 ![] bcast_S_S32x192 (constantI S_ 32 192#32))) (res_main_v0 V0)))⟩] concatenates_S32x192x1_S32x192x1_S32x192x2_d2

/-- The column of the samples' numbers. -/
theorem v94_at (s : Fin 32) : res_main_v94 V0 (ix2 s 0) = BitVec.ofNat 32 s.val := by
  unfold res_main_v94
  rw [broadcastInDim_apply _ _ _ _ (ix1 s) (by intro a; fin_cases a <;> rfl)]
  rfl

/-- The scatter's first index is the sample. -/
theorem scatterIdx_0 (s : Fin 32) (e : Fin 192) : scatterIdx V0 (ix3 s e 0) = BitVec.ofNat 32 s.val := by
  unfold scatterIdx
  pointwise []
  rw [v94_at, wrap_ofNat (by omega)]

/-- The scatter's second index is the element's address. -/
theorem scatterIdx_1 (s : Fin 32) (e : Fin 192) : scatterIdx V0 (ix3 s e 1) = BitVec.ofNat 32 (sig0 V0 s e).val := by
  unfold scatterIdx
  pointwise []
  rw [v0_at, wrap_ofNat (by omega)]

/-- The image's rows before they are laid out by channel. -/
def memory : FVec Ideal S32x192x8 .f32 :=
  Host.scatter scatter_S32x192x8_S32x192x2_S32x192x8_2_01_01_2 (fun _ b => b) (broadcastInDim S32x192x8 ![] bcast_S_S32x192x8 (constant S_ .f32 0x00000000#32))
    (scatterIdx V0) (shapeCast _ (transpose S32x3x64x8 [0, 1, 3, 2] (shapeCast _ (feats V0) shapeCasts_S32x3x8x8x8_S32x3x8x64) transposes_S32x3x8x64_S32x3x64x8_0_1_3_2) shapeCasts_S32x3x64x8_S32x192x8)

/-- The memory image holds, at the address of place `e` of the sorted order, the features of element `e`. -/
theorem memory_at (s : Fin 32) (i : Fin 192) (ch : Fin 8) :
    memory V0 (ix3 s i ch) = element (rw1 V0) (rb1 V0) (addr (sig0 V0 s)) ch ((sig0 V0 s).symm i) := by
  unfold memory
  rw [scatter_rows _ _ _ (sig0 V0) (scatterIdx_0 V0) (scatterIdx_1 V0)]
  generalize (sig0 V0 s).symm i = e
  rw [shapeCast_apply _ _ _ (ix4 s (⟨e.val / 64, by omega⟩ : Fin 3) (⟨e.val % 64, by omega⟩ : Fin 64) ch)
      (by rw [Shape.rowMajor_val_four, Shape.rowMajor_val_three]; show _ = _; simp <;> omega),
    transpose_apply _ _ _ _ (ix4 s (⟨e.val / 64, by omega⟩ : Fin 3) ch (⟨e.val % 64, by omega⟩ : Fin 64)) (by intro a; fin_cases a <;> rfl),
    shapeCast_apply _ _ _ (ix5 s (⟨e.val / 64, by omega⟩ : Fin 3) ch (⟨e.val % 64 / 8, by omega⟩ : Fin 8) (⟨e.val % 8, by omega⟩ : Fin 8))
      (by rw [Shape.rowMajor_val_five, Shape.rowMajor_val_four]; show _ = _; simp <;> omega), feats_at]
  unfold element
  congr 1
  exact Fin.ext (by show 8 * (e.val % 64 / 8) + e.val % 8 = e.val % 64; omega)

/-- The bordered image. -/
theorem v113_at (s : Fin 32) (ch : Fin 8) (y : Fin 26) (x : Fin 10) :
    (res_main_v113 V0 : FVec Ideal S32x8x26x10 .f32) (ix4 s ch y x) =
      pixel (rd fun i => element (rw1 V0) (rb1 V0) (addr (sig0 V0 s)) ch ((sig0 V0 s).symm i)) 24 y.val x.val := by
  show pad S32x8x26x10 ![0, 0, 1, 1] ![0, 0, 1, 1] ![0, 0, 0, 0] (shapeCast _ (transpose S32x8x192 [0, 2, 1] (memory V0) transposes_S32x192x8_S32x8x192_0_2_1) shapeCasts_S32x8x192_S32x8x24x8)
    (sitofp .f32 (constantI S_ 32 0#32)) pads_S32x8x24x8_S32x8x26x10_000_000_110_110 h_S_ (ix4 s ch y x) = _
  unfold pixel
  split_ifs with h
  · rw [pad_apply_of_inside _ _ _ _ _ _ _ _ (ix4 s ch (⟨y.val - 1, by omega⟩ : Fin 24) (⟨x.val - 1, by omega⟩ : Fin 8))
        (by intro a; fin_cases a <;> simp [ix4] <;> omega),
      shapeCast_apply _ _ _ (ix3 s ch ⟨8 * (y.val - 1) + (x.val - 1), by omega⟩)
        (by rw [Shape.rowMajor_val_four, Shape.rowMajor_val_three]; show _ = _; simp <;> omega),
      transpose_apply _ _ _ _ (ix3 s ⟨8 * (y.val - 1) + (x.val - 1), by omega⟩ ch) (by intro a; fin_cases a <;> rfl), memory_at]
    exact (rd_val (fun i => element (rw1 V0) (rb1 V0) (addr (sig0 V0 s)) ch ((sig0 V0 s).symm i)) ⟨8 * (y.val - 1) + (x.val - 1), by omega⟩).symm
  · by_cases hy : 1 ≤ y.val ∧ y.val ≤ 24
    · rw [pad_apply_of_not_inside _ _ _ _ _ _ _ _ 3 (by simp [ix4]; omega)]
      show FloatOps.sitofp .f32 (BitVec.ofNat 32 0) = _
      rw [sitofp_ofNat (by omega)]; simp
    · rw [pad_apply_of_not_inside _ _ _ _ _ _ _ _ 2 (by simp [ix4]; omega)]
      show FloatOps.sitofp .f32 (BitVec.ofNat 32 0) = _
      rw [sitofp_ofNat (by omega)]; simp

end Cert.ReferenceIdeal.Stage
-- ==== Proof.ROps.lean ====
module

public import proofs.«01_k».proof.Proof.RMem
public import proofs.«01_k».proof.Proof.Consts
public import Idealize.ShloMosaic.Lib.Pointwise.Reduce

@[expose] public section

/-! The reference's second convolution, read at an index. -/

set_option maxRecDepth 16384

noncomputable section

namespace Cert.ReferenceIdeal.Stage

open Idealize.ShloMosaic Cert.ReferenceIdeal Cert.ReferenceIdeal.Gen Cert.ReferenceIdeal.Value Cert.Order Cert.Spec
open KernelIdeal.Stage (toInt_ofNat sitofp_ofNat)

variable (V0 : Valuation τ sig (Elt Ideal))

/-- One product of the second convolution: that tap of the filters times the image shifted by `(oy, ox)`, summed over the channels. -/
def tap2 (x : FVec Ideal S32x8x26x10 .f32) (w : FVec Ideal S16x8x3x3 .f32) (oy ox : ℕ)
    (h : S32x8x26x10.Slices ![0, 0, oy, ox] S32x8x24x8) (h' : S16x8x3x3.Slices ![0, 0, oy, ox] S16x8x1x1) : FVec Ideal S32x16x24x8 .f32 :=
  transpose S32x16x24x8 [1, 0, 2, 3] (Host.dotGeneral dot_S16x8_S32x8x24x8_S16x32x24x8_1_1_0_023_n_n none
    (shapeCast _ (extractStridedSlice S16x8x1x1 ![0, 0, oy, ox] w h') shapeCasts_S16x8x1x1_S16x8)
    (extractStridedSlice S32x8x24x8 ![0, 0, oy, ox] x h)) transposes_S16x32x24x8_S32x16x24x8_1_0_2_3

/-- One of the nine shifted products of the second convolution, at a cell. -/
theorem tap2_at (x : FVec Ideal S32x8x26x10 .f32) (w : FVec Ideal S16x8x3x3 .f32) (oy ox : Fin 3) (h h')
    (s : Fin 32) (o : Fin 16) (i : Fin 24) (j : Fin 8) :
    tap2 x w oy.val ox.val h h' (ix4 s o i j) =
      ∑ ch : Fin 8, w (ix4 o ch oy ox) * x (ix4 s ch ⟨i.val + oy.val, by omega⟩ ⟨j.val + ox.val, by omega⟩) := by
  unfold tap2
  generalize hA : (shapeCast S16x8 (extractStridedSlice S16x8x1x1 ![0, 0, oy.val, ox.val] w h') shapeCasts_S16x8x1x1_S16x8 : FVec Ideal S16x8 .f32) = A
  generalize hB : (extractStridedSlice S32x8x24x8 ![0, 0, oy.val, ox.val] x h : FVec Ideal S32x8x24x8 .f32) = B
  pointwise []
  refine Finset.sum_congr rfl fun ch _ => ?_
  congr 1
  · rw [← hA, shapeCast_apply _ _ _ (ix4 o ch 0 0) (by rw [Shape.rowMajor_val_four, Shape.rowMajor_val_two]; show _ = _; simp <;> omega),
      extractStridedSlice_apply _ _ _ _ (ix4 o ch oy ox) (by intro a; fin_cases a <;> simp [ix4])]
  · rw [← hB, extractStridedSlice_apply _ _ _ _ (ix4 s ch ⟨i.val + oy.val, by omega⟩ ⟨j.val + ox.val, by omega⟩)
        (by intro a; fin_cases a <;> simp [ix4] <;> omega)]

/-- The second convolution's weights as the mathematics takes them. -/
abbrev rw2 (o : Fin 16) (ch : Fin 8) (dy dx : Fin 3) : EReal := b3 V0 (ix4 o ch dy dx)
/-- The second convolution's biases as the mathematics takes them. -/
abbrev rb2 (o : Fin 16) : EReal := b4 V0 (ix1 o)
/-- The memory image of sample `s` as the mathematics has it. -/
abbrev rmem (s : Fin 32) (ch : Fin 8) (i : Fin 192) : EReal := element (rw1 V0) (rb1 V0) (addr (sig0 V0 s)) ch ((sig0 V0 s).symm i)

/-- The convolved image as the sum of the nine taps. -/
theorem v172_eq : res_main_v172 V0 = maximumf (addf (addf (addf (addf (addf (addf (addf (addf (addf (addf (broadcastInDim S32x16x24x8 ![] bcast_S_S32x16x24x8 (constant S_ .f32 0x00000000#32))
    (tap2 (res_main_v113 V0) (b3 V0) 0 0 slices_S32x8x26x10_S32x8x24x8_0_0_0_0 slices_S16x8x3x3_S16x8x1x1_0_0_0_0))
    (tap2 (res_main_v113 V0) (b3 V0) 0 1 slices_S32x8x26x10_S32x8x24x8_0_0_0_1 slices_S16x8x3x3_S16x8x1x1_0_0_0_1))
    (tap2 (res_main_v113 V0) (b3 V0) 0 2 slices_S32x8x26x10_S32x8x24x8_0_0_0_2 slices_S16x8x3x3_S16x8x1x1_0_0_0_2))
    (tap2 (res_main_v113 V0) (b3 V0) 1 0 slices_S32x8x26x10_S32x8x24x8_0_0_1_0 slices_S16x8x3x3_S16x8x1x1_0_0_1_0))
    (tap2 (res_main_v113 V0) (b3 V0) 1 1 slices_S32x8x26x10_S32x8x24x8_0_0_1_1 slices_S16x8x3x3_S16x8x1x1_0_0_1_1))
    (tap2 (res_main_v113 V0) (b3 V0) 1 2 slices_S32x8x26x10_S32x8x24x8_0_0_1_2 slices_S16x8x3x3_S16x8x1x1_0_0_1_2))
    (tap2 (res_main_v113 V0) (b3 V0) 2 0 slices_S32x8x26x10_S32x8x24x8_0_0_2_0 slices_S16x8x3x3_S16x8x1x1_0_0_2_0))
    (tap2 (res_main_v113 V0) (b3 V0) 2 1 slices_S32x8x26x10_S32x8x24x8_0_0_2_1 slices_S16x8x3x3_S16x8x1x1_0_0_2_1))
    (tap2 (res_main_v113 V0) (b3 V0) 2 2 slices_S32x8x26x10_S32x8x24x8_0_0_2_2 slices_S16x8x3x3_S16x8x1x1_0_0_2_2))
    (broadcastInDim S32x16x24x8 ![0, 1, 2, 3] bcast_S1x16x1x1_S32x16x24x8_0_1_2_3 (broadcastInDim S1x16x1x1 ![1] bcast_S16_S1x16x1x1_1 (b4 V0))))
    (broadcastInDim S32x16x24x8 ![] bcast_S_S32x16x24x8 (constant S_ .f32 0x00000000#32)) := rfl

/-- The convolved image. -/
theorem v172_at (s : Fin 32) (o : Fin 16) (i : Fin 24) (j : Fin 8) :
    (res_main_v172 V0 : FVec Ideal S32x16x24x8 .f32) (ix4 s o i j) = conv (rw2 V0) (rb2 V0) (rmem V0 s) o ⟨8 * i.val + j.val, by omega⟩ := by
  have hz : (broadcastInDim S32x16x24x8 ![] bcast_S_S32x16x24x8 (constant S_ .f32 0x00000000#32) : FVec Ideal S32x16x24x8 .f32) (ix4 s o i j) = 0 := by
    show Ideal.ofBits .f32 0 = 0
    simp [Ideal.ofBits, Ideal.ieee]
  have hb : (broadcastInDim S32x16x24x8 ![0, 1, 2, 3] bcast_S1x16x1x1_S32x16x24x8_0_1_2_3 (broadcastInDim S1x16x1x1 ![1] bcast_S16_S1x16x1x1_1 (b4 V0)) : FVec Ideal S32x16x24x8 .f32) (ix4 s o i j) = b4 V0 (ix1 o) := by
    rw [broadcastInDim_apply _ _ _ _ (ix4 0 o 0 0) (by intro a; fin_cases a <;> rfl),
      broadcastInDim_apply _ _ _ _ (ix1 o) (by intro a; fin_cases a <;> rfl)]
  have ht : ∀ (oy ox : Fin 3) (h h'), tap2 (res_main_v113 V0) (b3 V0) oy.val ox.val h h' (ix4 s o i j) =
      ∑ ch : Fin 8, rw2 V0 o ch oy ox * pixel (rd (rmem V0 s ch)) 24 (i.val + oy.val) (j.val + ox.val) := by
    intro oy ox h h'
    rw [tap2_at]
    exact Finset.sum_congr rfl fun ch _ => by rw [v113_at]
  unfold conv
  rw [v172_eq]
  show max (((((((((((_ + tap2 _ _ (0 : Fin 3).val (0 : Fin 3).val _ _ _) + tap2 _ _ (0 : Fin 3).val (1 : Fin 3).val _ _ _) + tap2 _ _ (0 : Fin 3).val (2 : Fin 3).val _ _ _)
    + tap2 _ _ (1 : Fin 3).val (0 : Fin 3).val _ _ _) + tap2 _ _ (1 : Fin 3).val (1 : Fin 3).val _ _ _) + tap2 _ _ (1 : Fin 3).val (2 : Fin 3).val _ _ _)
    + tap2 _ _ (2 : Fin 3).val (0 : Fin 3).val _ _ _) + tap2 _ _ (2 : Fin 3).val (1 : Fin 3).val _ _ _) + tap2 _ _ (2 : Fin 3).val (2 : Fin 3).val _ _ _)) + _) _ = _
  rw [hz, hb]
  simp only [ht]
  have e1 : (8 * i.val + j.val) / 8 = i.val := by omega
  have e2 : (8 * i.val + j.val) % 8 = j.val := by omega
  simp only [e1, e2, Fin.sum_univ_three, zero_add, ← add_assoc]

/-- The sum over blocks of 6 rows and 2 columns, at an index. -/
theorem block_at (h : S32x16x4x6x4x2.ReducesTo [3, 5] S32x16x4x4) (x : FVec Ideal S32x16x4x6x4x2 .f32) (init : EReal) (s : Fin 32) (o : Fin 16) (u v : Fin 4) :
    Ideal.hostReduceAdd h x init (ix4 s o u v) = init + ∑ a : Fin 6, ∑ b : Fin 2, x (ix6 s o u a v b) := by
  refine congrArg (init + ·) ?_
  have hf : ∀ i : S32x16x4x6x4x2.Idx, h.drop i = ix4 s o u v ↔ ∃ k : Fin 6 × Fin 2, (ix6 s o u k.1 v k.2 : S32x16x4x6x4x2.Idx) = i := by
    intro i
    constructor
    · intro e
      refine ⟨(i 3, i 5), ?_⟩
      funext a; apply Fin.ext
      fin_cases a
      · exact (congrArg Fin.val (congrFun e 0)).symm
      · exact (congrArg Fin.val (congrFun e 1)).symm
      · exact (congrArg Fin.val (congrFun e 2)).symm
      · rfl
      · exact (congrArg Fin.val (congrFun e 3)).symm
      · rfl
    · rintro ⟨k, rfl⟩
      funext b
      apply Fin.ext
      fin_cases b <;> rfl
  refine (Finset.sum_filter_eq_sum_of_fiber _ (fun k : Fin 6 × Fin 2 => (ix6 s o u k.1 v k.2 : S32x16x4x6x4x2.Idx))
    (fun _ _ e => Prod.ext (congrFun e 3) (congrFun e 5)) hf x).trans ?_
  exact Fintype.sum_prod_type _

/-- The pooled image. -/
def pooled : FVec Ideal S32x16x4x4 .f32 :=
  Host.divf (Host.reduceAdd (shapeCast _ (res_main_v172 V0 : FVec Ideal S32x16x24x8 .f32) shapeCasts_S32x16x24x8_S32x16x4x6x4x2 : FVec Ideal S32x16x4x6x4x2 .f32) (constant S_ .f32 0x00000000#32) reducesTo_S32x16x4x6x4x2_S32x16x4x4_d3_5 h_S_) (broadcastInDim S32x16x4x4 ![] bcast_S_S32x16x4x4 (constant S_ .f32 0x41400000#32))

/-- The mean of a window is the pooled value of the memory convolution. -/
theorem pooled_at (s : Fin 32) (o : Fin 16) (u v : Fin 4) :
    pooled V0 (ix4 s o u v) = Spec.pool (conv (rw2 V0) (rb2 V0) (rmem V0 s)) o ⟨4 * u.val + v.val, by omega⟩ := by
  have h0 : Ideal.ofBits .f32 0x00000000#32 = 0 := by simp [Ideal.ofBits, Ideal.ieee]
  show Ideal.div (Ideal.hostReduceAdd reducesTo_S32x16x4x6x4x2_S32x16x4x4_d3_5 _ (Ideal.ofBits .f32 0x00000000#32) (ix4 s o u v)) (Ideal.ofBits .f32 0x41400000#32) = _
  rw [block_at, h0, zero_add, bits_twelve]
  have hs : ∀ (a : Fin 6) (b : Fin 2), (shapeCast _ (res_main_v172 V0 : FVec Ideal S32x16x24x8 .f32) shapeCasts_S32x16x24x8_S32x16x4x6x4x2 : FVec Ideal S32x16x4x6x4x2 .f32) (ix6 s o u a v b) =
      conv (rw2 V0) (rb2 V0) (rmem V0 s) o ⟨48 * u.val + 8 * a.val + 2 * v.val + b.val, by omega⟩ := by
    intro a b
    rw [shapeCast_apply _ _ _ (ix4 s o (⟨6 * u.val + a.val, by omega⟩ : Fin 24) (⟨2 * v.val + b.val, by omega⟩ : Fin 8))
      (by rw [Shape.rowMajor_val_six, Shape.rowMajor_val_four]; show _ = _; simp <;> omega), v172_at]
    exact congrArg _ (Fin.ext (by show 8 * (6 * u.val + a.val) + (2 * v.val + b.val) = _; simp only []; omega))
  simp only [hs]
  rw [Ideal.div_coe (by norm_num), one_div]
  unfold Spec.pool
  generalize conv (rw2 V0) (rb2 V0) (rmem V0 s) o = g
  refine congrArg (· * ((12⁻¹ : ℝ) : EReal)) ?_
  refine Finset.sum_congr rfl fun a _ => Finset.sum_congr rfl fun b _ => congrArg _ (Fin.ext ?_)
  have e1 : (4 * u.val + v.val) / 4 = u.val := by omega
  have e2 : (4 * u.val + v.val) % 4 = v.val := by omega
  show _ = 48 * ((4 * u.val + v.val) / 4) + 8 * a.val + 2 * ((4 * u.val + v.val) % 4) + b.val
  rw [e1, e2]

/-- The last layer's weights as the mathematics takes them. -/
abbrev rw3 (k : Fin 64) (q : Fin 256) : EReal := b5 V0 (ix2 k q)
/-- The last layer's biases as the mathematics takes them. -/
abbrev rb3 (k : Fin 64) : EReal := b6 V0 (ix1 k)

/-- The operation logits. -/
theorem v182_at (s : Fin 32) (k : Fin 64) :
    (res_main_v182 V0 : FVec Ideal S32x64 .f32) (ix2 s k) = logits (rw1 V0) (rb1 V0) (rw2 V0) (rb2 V0) (rw3 V0) (rb3 V0) (sig0 V0 s) k := by
  show addf (Host.dotGeneral dot_S32x256_S256x64_S32x64_1_0_0_1_n_n none (shapeCast _ (pooled V0) shapeCasts_S32x16x4x4_S32x256) (transpose S256x64 [1, 0] (b5 V0) transposes_S64x256_S256x64_1_0))
    (broadcastInDim S32x64 ![0, 1] bcast_S1x64_S32x64_0_1 (broadcastInDim S1x64 ![1] bcast_S64_S1x64_1 (b6 V0))) (ix2 s k) = _
  generalize hA : (shapeCast S32x256 (pooled V0) shapeCasts_S32x16x4x4_S32x256 : FVec Ideal S32x256 .f32) = A
  generalize hB : (transpose S256x64 [1, 0] (b5 V0) transposes_S64x256_S256x64_1_0 : FVec Ideal S256x64 .f32) = B
  pointwise []
  unfold logits opLogit
  congr 1
  rw [sum_rows (show 16 * 16 = 256 from rfl)]
  refine Finset.sum_congr rfl fun o _ => Finset.sum_congr rfl fun q _ => ?_
  rw [mul_comm]
  congr 1
  · rw [← hB, transpose_apply _ _ _ _ (ix2 k (⟨16 * o.val + q.val, by omega⟩ : Fin 256)) (by intro a; fin_cases a <;> rfl)]
  · rw [← hA, shapeCast_apply _ _ _ (ix4 s o (⟨q.val / 4, by omega⟩ : Fin 4) (⟨q.val % 4, by omega⟩ : Fin 4))
      (by rw [Shape.rowMajor_val_four, Shape.rowMajor_val_two]; show _ = _; simp <;> omega), pooled_at]
    exact congrArg _ (Fin.ext (by show 4 * (q.val / 4) + q.val % 4 = q.val; omega))

end Cert.ReferenceIdeal.Stage
-- ==== Proof.RPen.lean ====
module

public import proofs.«01_k».proof.Proof.ROps

@[expose] public section

/-! The reference's gathers and penalties, read at an index. -/

set_option maxRecDepth 16384

noncomputable section

namespace Cert.ReferenceIdeal.Stage

open Idealize.ShloMosaic Cert.ReferenceIdeal Cert.ReferenceIdeal.Gen Cert.ReferenceIdeal.Value Cert.Order Cert.Spec
open KernelIdeal.Stage (toInt_ofNat sitofp_ofNat)

variable (V0 : Valuation τ sig (Elt Ideal))

/-- The zero constant. -/
theorem bits_zero : Ideal.ofBits .f32 0x00000000#32 = 0 := by simp [Ideal.ofBits, Ideal.ieee]

/-- This float word is 1. -/
theorem bits_one : Ideal.ofBits .f32 0x3F800000#32 = 1 := by
  rw [show (1 : EReal) = ((1 : ℝ) : EReal) from rfl]
  simp [Ideal.ofBits, Ideal.ieee, -EReal.coe_mul]; norm_num

/-- A finite value to the power one. -/
theorem pow_one' {x : EReal} (h : Fin' x) : Ideal.pow x 1 = x := by
  obtain ⟨r, rfl⟩ := h.exists_real
  show ((Real.rpow r 1 : ℝ) : EReal) = _
  exact congrArg _ (Real.rpow_one r)

/-- A finite value to the power two. -/
theorem pow_two' {x : EReal} (h : Fin' x) : Ideal.pow x 2 = x * x := by
  obtain ⟨r, rfl⟩ := h.exists_real
  show ((Real.rpow r 2 : ℝ) : EReal) = _
  rw [← EReal.coe_mul, ← pow_two]
  exact congrArg _ (Real.rpow_two r)

/-- The hops' penalty: the hops to the power `p`, times the multiplier, summed along each row. -/
def side {n : ℕ} (x : FVec Ideal ⟨2, ![32, n]⟩ .f32) (p : BitVec 32) (hb : S_.BroadcastsInDim ⟨2, ![32, n]⟩ (![] : Fin 0 → Fin 2))
    (hr : (⟨2, ![32, n]⟩ : Shape).ReducesTo [1] S32) : FVec Ideal S32 .f32 :=
  Host.reduceAdd (mulf (Host.powf x (broadcastInDim ⟨2, ![32, n]⟩ ![] hb (constant S_ .f32 p)))
    (id (select (cmpf .ole x (broadcastInDim ⟨2, ![32, n]⟩ ![] hb (constant S_ .f32 0x40000000#32))) (broadcastInDim ⟨2, ![32, n]⟩ ![] hb (constant S_ .f32 0x3F800000#32)) (select (cmpf .ole x (broadcastInDim ⟨2, ![32, n]⟩ ![] hb (constant S_ .f32 0x40800000#32))) (broadcastInDim ⟨2, ![32, n]⟩ ![] hb (constant S_ .f32 0x3FC00000#32)) (select (cmpf .ole x (broadcastInDim ⟨2, ![32, n]⟩ ![] hb (constant S_ .f32 0x41000000#32))) (broadcastInDim ⟨2, ![32, n]⟩ ![] hb (constant S_ .f32 0x40000000#32)) (select (cmpf .ole x (broadcastInDim ⟨2, ![32, n]⟩ ![] hb (constant S_ .f32 0x41800000#32))) (broadcastInDim ⟨2, ![32, n]⟩ ![] hb (constant S_ .f32 0x40400000#32)) (broadcastInDim ⟨2, ![32, n]⟩ ![] hb (constant S_ .f32 0x40A00000#32)))))))) (constant S_ .f32 0x00000000#32) hr h_S_

/-- One side of a penalty: the sum of the hops, to their power, times their multiplier. -/
theorem side_at {n : ℕ} (x : FVec Ideal ⟨2, ![32, n]⟩ .f32) (p : BitVec 32) (hb hr) (s : Fin 32) :
    side x p hb hr (ix1 s) = ∑ k : Fin n, Ideal.pow (x (ix2 s k)) (Ideal.ofBits .f32 p) * mult (x (ix2 s k)) := by
  unfold side
  rw [id_eq]
  pointwise []
  simp only [mult_bits]

/-- The jumps' penalty: forward hops to the first power, backward hops to the second. -/
def penalty {n : ℕ} (x : FVec Ideal ⟨2, ![32, n]⟩ .f32) (hb : S_.BroadcastsInDim ⟨2, ![32, n]⟩ (![] : Fin 0 → Fin 2))
    (hr : (⟨2, ![32, n]⟩ : Shape).ReducesTo [1] S32) : FVec Ideal S32 .f32 :=
  addf (side (maximumf x (broadcastInDim ⟨2, ![32, n]⟩ ![] hb (constant S_ .f32 0x00000000#32))) 0x3F800000#32 hb hr)
    (side (maximumf (Host.negf x) (broadcastInDim ⟨2, ![32, n]⟩ ![] hb (constant S_ .f32 0x00000000#32))) 0x40000000#32 hb hr)

/-- The jumps' penalty is the sum of their costs. -/
theorem penalty_at {n : ℕ} (x : FVec Ideal ⟨2, ![32, n]⟩ .f32) (hb hr) (s : Fin 32) (hx : ∀ k, Fin' (x (ix2 s k))) :
    penalty x hb hr (ix1 s) = ∑ k : Fin n, cost (x (ix2 s k)) := by
  have hn : ∀ k, Fin' (-x (ix2 s k)) := fun k => by
    obtain ⟨r, h⟩ := (hx k).exists_real
    rw [h, ← EReal.coe_neg]
    exact Fin'.coe _
  have e1 : ∀ k, maximumf x (broadcastInDim ⟨2, ![32, n]⟩ ![] hb (constant S_ .f32 0x00000000#32)) (ix2 s k) = max (x (ix2 s k)) 0 := by
    intro k
    show max _ (Ideal.ofBits .f32 0x00000000#32) = _
    rw [bits_zero]
  have e2 : ∀ k, maximumf (Host.negf x) (broadcastInDim ⟨2, ![32, n]⟩ ![] hb (constant S_ .f32 0x00000000#32)) (ix2 s k) = max (-x (ix2 s k)) 0 := by
    intro k
    show max _ (Ideal.ofBits .f32 0x00000000#32) = _
    rw [bits_zero]
    rfl
  show side _ _ hb hr (ix1 s) + side _ _ hb hr (ix1 s) = _
  rw [side_at, side_at, ← Finset.sum_add_distrib]
  refine Finset.sum_congr rfl fun k _ => ?_
  rw [e1, e2, bits_one, bits_two, pow_one' ((hx k).max Fin'.zero), pow_two' ((hn k).max Fin'.zero)]
  rfl

/-- Entry `(s, k)` of a gather whose start indices are `(s, p s k)`. -/
theorem gather_rows (x : IVec S32x64 32) (idx : IVec S32x64x2 32) (p : Fin 32 → Fin 64 → Fin 64)
    (h0 : ∀ s k, idx (ix3 s k 0) = BitVec.ofNat 32 s.val) (h1 : ∀ s k, idx (ix3 s k 1) = BitVec.ofNat 32 (p s k).val)
    (s : Fin 32) (k : Fin 64) :
    Host.gather gather_S32x64_S32x64x2_S32x64_n_01_n_n_01_2_11 x idx (ix2 s k) = x (ix2 s (p s k)) := by
  show x (gather_S32x64_S32x64x2_S32x64_n_01_n_n_01_2_11.operandIdx (ix2 s k) idx) = _
  refine congrArg x ?_
  funext a
  apply Fin.ext
  show gather_S32x64_S32x64x2_S32x64_n_01_n_n_01_2_11.start (ix2 s k) idx a + gather_S32x64_S32x64x2_S32x64_n_01_n_n_01_2_11.batchCoord (ix2 s k) a
    + gather_S32x64_S32x64x2_S32x64_n_01_n_n_01_2_11.offCoord (ix2 s k) a = _
  fin_cases a
  · have e : gather_S32x64_S32x64x2_S32x64_n_01_n_n_01_2_11.start (ix2 s k) idx 0 = min (idx (ix3 s k 0)).toInt.toNat 31 := by
      refine congrArg (fun q => min (idx q).toInt.toNat 31) ?_
      funext q; fin_cases q <;> rfl
    show gather_S32x64_S32x64x2_S32x64_n_01_n_n_01_2_11.start (ix2 s k) idx 0 + 0 + 0 = s.val
    rw [e, h0, toInt_ofNat (by omega)]
    simp; omega
  · have e : gather_S32x64_S32x64x2_S32x64_n_01_n_n_01_2_11.start (ix2 s k) idx 1 = min (idx (ix3 s k 1)).toInt.toNat 63 := by
      refine congrArg (fun q => min (idx q).toInt.toNat 63) ?_
      funext q; fin_cases q <;> rfl
    show gather_S32x64_S32x64x2_S32x64_n_01_n_n_01_2_11.start (ix2 s k) idx 1 + 0 + 0 = (p s k).val
    rw [e, h1, toInt_ofNat (by omega)]
    simp; omega

/-- The gathers' index pairs. -/
def gatherIdx : IVec S32x64x2 32 :=
  concatenate S32x64x2 2 [⟨S32x64x1, (broadcastInDim S32x64x1 ![0, 1] bcast_S32x64_S32x64x1_0_1 (broadcastInDim S32x64 ![0, 1] bcast_S32x1_S32x64_0_1 (select (cmpi .slt (res_main_v94 V0) (broadcastInDim S32x1 ![] bcast_S_S32x1 (constantI S_ 32 0#32))) (addi (res_main_v94 V0) (broadcastInDim S32x1 ![] bcast_S_S32x1 (constantI S_ 32 32#32))) (res_main_v94 V0))))⟩, ⟨S32x64x1, (broadcastInDim S32x64x1 ![0, 1] bcast_S32x64_S32x64x1_0_1 (select (cmpi .slt (res_main_v183 V0) (broadcastInDim S32x64 ![] bcast_S_S32x64 (constantI S_ 32 0#32))) (addi (res_main_v183 V0) (broadcastInDim S32x64 ![] bcast_S_S32x64 (constantI S_ 32 64#32))) (res_main_v183 V0)))⟩] concatenates_S32x64x1_S32x64x1_S32x64x2_d2

/-- The operation order of sample `s`. -/
def tau (s : Fin 32) : Equiv.Perm (Fin 64) := order (logits (rw1 V0) (rb1 V0) (rw2 V0) (rb2 V0) (rw3 V0) (rb3 V0) (sig0 V0 s))

/-- The order of the ops, as words. -/
theorem v183_tau (s : Fin 32) (k : Fin 64) : res_main_v183 V0 (ix2 s k) = BitVec.ofNat 32 (tau V0 s k).val := by
  rw [v183_at]
  unfold tau
  exact congrArg (fun f => BitVec.ofNat 32 (order f k).val) (funext fun j => v182_at V0 s j)

/-- The gathers' first index is the sample. -/
theorem gatherIdx_0 (s : Fin 32) (k : Fin 64) : gatherIdx V0 (ix3 s k 0) = BitVec.ofNat 32 s.val := by
  unfold gatherIdx
  pointwise []
  rw [v94_at, wrap_ofNat (by omega)]

/-- The gathers' second index is the op's place in the order. -/
theorem gatherIdx_1 (s : Fin 32) (k : Fin 64) : gatherIdx V0 (ix3 s k 1) = BitVec.ofNat 32 (tau V0 s k).val := by
  unfold gatherIdx
  pointwise []
  rw [v183_tau, wrap_ofNat (by omega)]

/-- The gathered addresses as floats, from the 64 places after `o`. -/
theorem gathered (o : ℕ) (h : S32x192.Slices ![0, o] S32x64) (s : Fin 32) (k : Fin 64) (e : Fin 192) (he : e.val = o + (tau V0 s k).val) :
    (sitofp .f32 (Host.gather gather_S32x64_S32x64x2_S32x64_n_01_n_n_01_2_11 (extractStridedSlice S32x64 ![0, o] (res_main_v0 V0) h) (gatherIdx V0)) : FVec Ideal S32x64 .f32) (ix2 s k) =
      addr (sig0 V0 s) e := by
  show FloatOps.sitofp .f32 (Host.gather gather_S32x64_S32x64x2_S32x64_n_01_n_n_01_2_11 _ (gatherIdx V0) (ix2 s k)) = _
  rw [gather_rows _ _ (fun s k => tau V0 s k) (gatherIdx_0 V0) (gatherIdx_1 V0),
    extractStridedSlice_apply _ _ _ _ (ix2 s e) (by intro a; fin_cases a <;> simp [ix2, he]), v0_at, sitofp_ofNat (by omega)]
  rfl

/-- The first source's address of the `k`-th op in the order. -/
theorem v200_at (s : Fin 32) (k : Fin 64) : (res_main_v200 V0 : FVec Ideal S32x64 .f32) (ix2 s k) = addr (sig0 V0 s) ⟨(tau V0 s k).val, by omega⟩ :=
  gathered V0 0 slices_S32x192_S32x64_0_0 s k _ (by dsimp only; omega)

/-- The second source's address of the `k`-th op in the order. -/
theorem v217_at (s : Fin 32) (k : Fin 64) : (res_main_v217 V0 : FVec Ideal S32x64 .f32) (ix2 s k) = addr (sig0 V0 s) ⟨64 + (tau V0 s k).val, by omega⟩ :=
  gathered V0 64 slices_S32x192_S32x64_0_64 s k _ rfl

/-- The destination's address of the `k`-th op in the order. -/
theorem v234_at (s : Fin 32) (k : Fin 64) : (res_main_v234 V0 : FVec Ideal S32x64 .f32) (ix2 s k) = addr (sig0 V0 s) ⟨128 + (tau V0 s k).val, by omega⟩ :=
  gathered V0 128 slices_S32x192_S32x64_0_128 s k _ rfl

/-- The jumps between operations. -/
theorem v240_at (s : Fin 32) (k : Fin 63) : (res_main_v240 V0 : FVec Ideal S32x63 .f32) (ix2 s k) = interJump (addr (sig0 V0 s)) (tau V0 s) k := by
  show (extractStridedSlice S32x63 ![0, 1] (res_main_v200 V0 : FVec Ideal S32x64 .f32) slices_S32x64_S32x63_0_1 (ix2 s k) : EReal)
    - (extractStridedSlice S32x63 ![0, 0] (res_main_v234 V0 : FVec Ideal S32x64 .f32) slices_S32x64_S32x63_0_0 (ix2 s k) : EReal) = _
  rw [extractStridedSlice_apply _ _ _ _ (ix2 s ⟨k.val + 1, by omega⟩) (by intro a; fin_cases a <;> simp [ix2] <;> omega),
    extractStridedSlice_apply _ _ _ _ (ix2 s ⟨k.val, by omega⟩) (by intro a; fin_cases a <;> simp [ix2]), v200_at, v234_at]
  rfl

/-- The jumps within operations. -/
theorem v237_at (s : Fin 32) (k : Fin 128) : (res_main_v237 V0 : FVec Ideal S32x128 .f32) (ix2 s k) = intraJump (addr (sig0 V0 s)) (tau V0 s) k := by
  unfold res_main_v237
  pointwise []
  unfold intraJump
  split_ifs with h
  · rw [v217_at, v200_at]
  · rw [v234_at, v217_at]
  · contradiction

/-- A difference of finite values is finite. -/
theorem sub_fin {x y : EReal} (hx : Fin' x) (hy : Fin' y) : Fin' (x - y) := by
  obtain ⟨a, rfl⟩ := hx.exists_real
  obtain ⟨b, rfl⟩ := hy.exists_real
  rw [← EReal.coe_sub]
  exact Fin'.coe (a - b)

/-- Every inter jump is finite. -/
theorem interJump_fin (s : Fin 32) (k : Fin 63) : Fin' (interJump (addr (sig0 V0 s)) (tau V0 s) k) :=
  sub_fin (Fin'.natCast _) (Fin'.natCast _)

/-- Every intra jump is finite. -/
theorem intraJump_fin (s : Fin 32) (k : Fin 128) : Fin' (intraJump (addr (sig0 V0 s)) (tau V0 s) k) := by
  unfold intraJump
  split_ifs
  · exact sub_fin (Fin'.natCast _) (Fin'.natCast _)
  · exact sub_fin (Fin'.natCast _) (Fin'.natCast _)

/-- The reference's first result. -/
theorem inter_eq : penalty (res_main_v240 V0 : FVec Ideal S32x63 .f32) bcast_S_S32x63 reducesTo_S32x63_S32_d1 = fun i => inter (sig0 V0 (i 0)) (tau V0 (i 0)) := by
  funext i
  idx_vars i
  refine (penalty_at _ _ _ i0 fun k => ?_).trans (Finset.sum_congr rfl fun k _ => congrArg cost (v240_at V0 i0 k))
  rw [v240_at]
  exact interJump_fin V0 i0 k

/-- The reference's second result. -/
theorem intra_eq : penalty (res_main_v237 V0 : FVec Ideal S32x128 .f32) bcast_S_S32x128 reducesTo_S32x128_S32_d1 = fun i => intra (sig0 V0 (i 0)) (tau V0 (i 0)) := by
  funext i
  idx_vars i
  refine (penalty_at _ _ _ i0 fun k => ?_).trans (Finset.sum_congr rfl fun k _ => congrArg cost (v237_at V0 i0 k))
  rw [v237_at]
  exact intraJump_fin V0 i0 k

end Cert.ReferenceIdeal.Stage
-- ==== Proof.Algebraic.lean ====
module

public import proofs.«01_k».proof.Proof.Finite
public import proofs.«01_k».proof.Proof.RPen

@[expose] public section

/-! The value claim: the kernel and the reference leave the same two results. -/

set_option maxRecDepth 16384

noncomputable section

namespace Cert.Stage

open Idealize.ShloMosaic Idealize.ShloMosaic.StableHlo Idealize.SL.Sem Cert.Spec Cert.Order Cert.KernelIdeal.Stage Cert.ReferenceIdeal.Stage

/-- After every run of the reference, its two results hold every sample's two costs. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v278) = (fun i => inter (sig0 (launchContents m' c) (i 0)) (tau (launchContents m' c) (i 0)))
      ∧ r.2.mem ((c.tc : Thread Cert.ReferenceIdeal.nD Cert.ReferenceIdeal.τ).loc Cert.ReferenceIdeal.main_v316) = (fun i => intra (sig0 (launchContents m' c) (i 0)) (tau (launchContents m' c) (i 0)))) := by
  refine (θ_run _ _ _).mono (fun r h c => ⟨(h c).1.trans ?_, (h c).2.1.trans ?_⟩) (Cert.ReferenceIdeal.Value.run (F := Ideal) m' g')
  · exact inter_eq (launchContents m' c)
  · exact intra_eq (launchContents m' c)

variable (m : (ℓ : Loc Cert.KernelIdeal.nD Cert.KernelIdeal.τ Cert.KernelIdeal.sig) → Buf (Elt Ideal) ℓ)

/-- Under the precondition the operation logits are finite. -/
theorem finite_logits (hpre : Cert.Pre_KernelIdeal_finite m) (c : Dev Cert.KernelIdeal.nD) (s : Fin 32) (k : Fin 64) : Fin' (opLogitsOf m c s k) := by
  obtain ⟨_, h1, h2, h3, h4, h5, h6⟩ := finite_args m hpre c
  exact logits_fin (fun _ _ _ _ => h1 _) (fun _ _ => h2 _) (fun _ _ _ _ => h3 _) (fun _ => h4 _) (fun _ _ => h5 _) (fun _ => h6 _) _ _

/-- The kernel's and the reference's results agree, and neither changes its arguments. -/
theorem algebraic : Cert.algebraic_KernelIdeal_ReferenceIdeal_pre_finite := by
  intro m g m' g' hpre hagree
  have hσ : ∀ c s, sig0 (launchContents m' c) s = addrOrder m c s := fun c s => by
    unfold sig0 addrOrder
    exact congrArg (fun x : FVec Ideal Cert.KernelIdeal.S32x192 .f32 => order fun i => x (ix2 s i)) (hagree c).1
  have hτ : ∀ c s, tau (launchContents m' c) s = opOrder m c s := fun c s => by
    obtain ⟨e0, e1, e2, e3, e4, e5, e6⟩ := hagree c
    have q1 : b1 (launchContents m' c) = a1 m c := e1
    have q2 : b2 (launchContents m' c) = a2 m c := e2
    have q3 : b3 (launchContents m' c) = a3 m c := e3
    have q4 : b4 (launchContents m' c) = a4 m c := e4
    have q5 : b5 (launchContents m' c) = a5 m c := e5
    have q6 : b6 (launchContents m' c) = a6 m c := e6
    unfold tau opOrder opLogitsOf rw1 rb1 rw2 rb2 rw3 rb3
    rw [hσ, q1, q2, q3, q4, q5, q6]
  refine ⟨fun c i => inter (addrOrder m c (i 0)) (opOrder m c (i 0)), fun c i => intra (addrOrder m c (i 0)) (opOrder m c (i 0)), ?_, ?_⟩
  · refine (θ_run _ _ _).mono (fun r h c => ⟨(h.1 c).1, (h.1 c).2, h.2.1 c⟩) (θ_run_and
      (Cert.KernelIdeal.Stage.run m (fun c s i => (finite_args m hpre c).1 _) (finite_logits m hpre) g) (Cert.KernelIdeal.Gen.frame m g))
  · refine (θ_run _ _ _).mono (fun r h c => ⟨(h.1 c).1.trans ?_, (h.1 c).2.trans ?_, (h.2 c).2.2⟩) (θ_run_and (ref_run m' g') (Cert.ReferenceIdeal.Value.run (F := Ideal) m' g'))
    · exact funext fun i => congrArg₂ inter (hσ c (i 0)) (hτ c (i 0))
    · exact funext fun i => congrArg₂ intra (hσ c (i 0)) (hτ c (i 0))

end Cert.Stage
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Algebraic

@[expose] public section

noncomputable section

namespace Cert.Proof

open Idealize.ShloMosaic Idealize.SL.Sem

/-- The reference changes no argument and leaves every semaphore at zero. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    IdealRules.named_const.statement Cert.KernelIdeal.κ "twelfth" .f32 0x3DAAAAAB#32 ((12⁻¹ : ℝ) : EReal) rfl,
    Cert.Stage.algebraic⟩

end Cert.Proof

end
